-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_node_inputs [hPre_finite_node_inputs : Cert.Pre_finite_node_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite_node_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_node_inputs [hPre_finite_node_inputs : Cert.Pre_finite_node_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_finite_node_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_node_inputs [hKernelIdeal : Cert.KernelIdeal.Facts] [hPre_finite_node_inputs : Cert.Pre_finite_node_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_node_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_node_inputs [hReferenceIdeal : Cert.ReferenceIdeal.Facts] [hPre_finite_node_inputs : Cert.Pre_finite_node_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_node_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_node_inputs [hKernelIdeal : Cert.KernelIdeal.Facts] [hReferenceIdeal : Cert.ReferenceIdeal.Facts] [hPre_finite_node_inputs : Cert.Pre_finite_node_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_node_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_node_inputs : Cert.Pre_finite_node_inputs.Facts),
    quiescent_Kernel (hKernel := hKernel)
    ∧ quiescent_KernelIdeal (hKernelIdeal := hKernelIdeal)
    ∧ quiescent_KernelIdeal_pre_finite_node_inputs (hKernelIdeal := hKernelIdeal) (hPre_finite_node_inputs := hPre_finite_node_inputs)
    ∧ quiescent_ReferenceIdeal (hReferenceIdeal := hReferenceIdeal)
    ∧ quiescent_ReferenceIdeal_pre_finite_node_inputs (hReferenceIdeal := hReferenceIdeal) (hPre_finite_node_inputs := hPre_finite_node_inputs)
    ∧ preserves_Kernel_KernelIdeal
    ∧ algebraic_KernelIdeal_ReferenceIdeal_pre_finite_node_inputs (hKernelIdeal := hKernelIdeal) (hReferenceIdeal := hReferenceIdeal) (hPre_finite_node_inputs := hPre_finite_node_inputs)
-- ==== Pre_finite_node_inputs.lean ====
abbrev S215x2048x36 : Shape := ⟨3, ![215, 2048, 36]⟩
abbrev S2048x9 : Shape := ⟨2, ![2048, 9]⟩
abbrev S215x2048 : Shape := ⟨2, ![215, 2048]⟩
abbrev S2048 : Shape := ⟨1, ![2048]⟩
abbrev S36x36 : Shape := ⟨2, ![36, 36]⟩
abbrev S36 : Shape := ⟨1, ![36]⟩
abbrev S1x1 : Shape := ⟨2, ![1, 1]⟩
abbrev S1 : Shape := ⟨1, ![1]⟩
abbrev S512x36 : Shape := ⟨2, ![512, 36]⟩
abbrev S512 : Shape := ⟨1, ![512]⟩
abbrev S512x128 : Shape := ⟨2, ![512, 128]⟩
abbrev S137x137 : Shape := ⟨2, ![137, 137]⟩
abbrev S137 : Shape := ⟨1, ![137]⟩
abbrev S2x137 : Shape := ⟨2, ![2, 137]⟩
abbrev S2 : Shape := ⟨1, ![2]⟩
abbrev S_ : Shape := ⟨0, ![]⟩

class Facts : Prop where
  bcast_S_S215x2048x36 : S_.BroadcastsInDim S215x2048x36 (![] : Fin 0 → Fin S215x2048x36.rank)
  bcast_S_S36x36 : S_.BroadcastsInDim S36x36 (![] : Fin 0 → Fin S36x36.rank)
  bcast_S_S36 : S_.BroadcastsInDim S36 (![] : Fin 0 → Fin S36.rank)
  bcast_S_S1x1 : S_.BroadcastsInDim S1x1 (![] : Fin 0 → Fin S1x1.rank)
  bcast_S_S1 : S_.BroadcastsInDim S1 (![] : Fin 0 → Fin S1.rank)
  bcast_S_S2048 : S_.BroadcastsInDim S2048 (![] : Fin 0 → Fin S2048.rank)

variable [Facts]

def fn_part1 {F : FTy → Type} [FloatOps F] (main_arg3 : IVec S2048 32) (main_arg9 : FVec F S1 .f32) (main_arg11 : FVec F S1 .f32) (main_v2 : IVec S215x2048x36 1) (main_v5 : IVec S36x36 1) (main_v8 : IVec S36 1) (main_v11 : IVec S1x1 1) (main_v14 : IVec S1 1) (main_v17 : IVec S1 1) : IVec S215x2048x36 1 × IVec S36x36 1 × IVec S36 1 × IVec S1x1 1 × IVec S1 1 × IVec S1 1 × IVec S1 1 × IVec S1 1 × IVec S2048 1 :=
  let main_v18 : FVec F S1 .f32 := Host.absf main_arg9
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S1 .f32 := Host.absf main_arg11
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  let main_c : IVec S_ 32 := constantI S_ 32 4294967295#32
  let main_v24 : IVec S2048 32 := broadcastInDim S2048 ![] bcast_S_S2048 main_c
  let main_v25 : IVec S2048 1 := cmpi .ne main_arg3 main_v24
  (main_v2, main_v5, main_v8, main_v11, main_v14, main_v17, main_v20, main_v23, main_v25)

def fn {F : FTy → Type} [FloatOps F] (main_arg0 : FVec F S215x2048x36 .f32) (main_arg1 : FVec F S2048x9 .f32) (main_arg2 : FVec F S215x2048 .f32) (main_arg3 : IVec S2048 32) (main_arg4 : FVec F S36x36 .f32) (main_arg5 : FVec F S36 .f32) (main_arg6 : FVec F S1x1 .f32) (main_arg7 : FVec F S1 .f32) (main_arg8 : FVec F S1 .f32) (main_arg9 : FVec F S1 .f32) (main_arg10 : FVec F S1x1 .f32) (main_arg11 : FVec F S1 .f32) (main_arg12 : FVec F S512x36 .f32) (main_arg13 : FVec F S512 .f32) (main_arg14 : FVec F S512x128 .f32) (main_arg15 : FVec F S512 .f32) (main_arg16 : FVec F S137x137 .f32) (main_arg17 : FVec F S137 .f32) (main_arg18 : FVec F S2x137 .f32) (main_arg19 : FVec F S2 .f32) : IVec S215x2048x36 1 × IVec S36x36 1 × IVec S36 1 × IVec S1x1 1 × IVec S1 1 × IVec S1 1 × IVec S1 1 × IVec S1 1 × IVec S2048 1 :=
  let main_v0 : FVec F S215x2048x36 .f32 := Host.absf main_arg0
  let main_cst : FVec F S_ .f32 := constant S_ .f32 0x7F800000#32
  let main_v1 : FVec F S215x2048x36 .f32 := broadcastInDim S215x2048x36 ![] bcast_S_S215x2048x36 main_cst
  let main_v2 : IVec S215x2048x36 1 := cmpf .olt main_v0 main_v1
  let main_v3 : FVec F S36x36 .f32 := Host.absf main_arg4
  let main_cst_0 : FVec F S_ .f32 := constant S_ .f32 0x7F800000#32
  let main_v4 : FVec F S36x36 .f32 := broadcastInDim S36x36 ![] bcast_S_S36x36 main_cst_0
  let main_v5 : IVec S36x36 1 := cmpf .olt main_v3 main_v4
  let main_v6 : FVec F S36 .f32 := Host.absf main_arg5
  let main_cst_1 : FVec F S_ .f32 := constant S_ .f32 0x7F800000#32
  let main_v7 : FVec F S36 .f32 := broadcastInDim S36 ![] bcast_S_S36 main_cst_1
  let main_v8 : IVec S36 1 := cmpf .olt main_v6 main_v7
  let main_v9 : FVec F S1x1 .f32 := Host.absf main_arg6
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_v12 : FVec F S1 .f32 := Host.absf main_arg7
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S1 .f32 := Host.absf main_arg8
  let main_cst_4 : FVec F S_ .f32 := constant S_ .f32 0x7F800000#32
  let main_v16 : FVec F S1 .f32 := broadcastInDim S1 ![] bcast_S_S1 main_cst_4
  let main_v17 : IVec S1 1 := cmpf .olt main_v15 main_v16
  fn_part1 (F := F) main_arg3 main_arg9 main_arg11 main_v2 main_v5 main_v8 main_v11 main_v14 main_v17
-- ==== Kernel.lean ====
abbrev S215x2048x36 : Shape := ⟨3, ![215, 2048, 36]⟩
abbrev S2048x9 : Shape := ⟨2, ![2048, 9]⟩
abbrev S215x2048 : Shape := ⟨2, ![215, 2048]⟩
abbrev S2048 : Shape := ⟨1, ![2048]⟩
abbrev S36x36 : Shape := ⟨2, ![36, 36]⟩
abbrev S36 : Shape := ⟨1, ![36]⟩
abbrev S1x1 : Shape := ⟨2, ![1, 1]⟩
abbrev S1 : Shape := ⟨1, ![1]⟩
abbrev S512x36 : Shape := ⟨2, ![512, 36]⟩
abbrev S512 : Shape := ⟨1, ![512]⟩
abbrev S512x128 : Shape := ⟨2, ![512, 128]⟩
abbrev S137x137 : Shape := ⟨2, ![137, 137]⟩
abbrev S137 : Shape := ⟨1, ![137]⟩
abbrev S2x137 : Shape := ⟨2, ![2, 137]⟩
abbrev S2 : Shape := ⟨1, ![2]⟩
abbrev S_ : Shape := ⟨0, ![]⟩
abbrev S6 : Shape := ⟨1, ![6]⟩
abbrev S1x6 : Shape := ⟨2, ![1, 6]⟩
abbrev S36x128 : Shape := ⟨2, ![36, 128]⟩
abbrev S1x128 : Shape := ⟨2, ![1, 128]⟩
abbrev S256x512 : Shape := ⟨2, ![256, 512]⟩
abbrev S36x512 : Shape := ⟨2, ![36, 512]⟩
abbrev S128x512 : Shape := ⟨2, ![128, 512]⟩
abbrev S128 : Shape := ⟨1, ![128]⟩
abbrev S1x512 : Shape := ⟨2, ![1, 512]⟩
abbrev S2048x1 : Shape := ⟨2, ![2048, 1]⟩
abbrev S137x128 : Shape := ⟨2, ![137, 128]⟩
abbrev S128x137 : Shape := ⟨2, ![128, 137]⟩
abbrev S137x9 : Shape := ⟨2, ![137, 9]⟩
abbrev S9x137 : Shape := ⟨2, ![9, 137]⟩
abbrev S1x137 : Shape := ⟨2, ![1, 137]⟩
abbrev S137x2 : Shape := ⟨2, ![137, 2]⟩
abbrev S1x2 : Shape := ⟨2, ![1, 2]⟩
abbrev S2048x2 : Shape := ⟨2, ![2048, 2]⟩
abbrev S43x512x36 : Shape := ⟨3, ![43, 512, 36]⟩
abbrev S512x1 : Shape := ⟨2, ![512, 1]⟩
abbrev S512x9 : Shape := ⟨2, ![512, 9]⟩
abbrev S512x2 : Shape := ⟨2, ![512, 2]⟩
abbrev S8x128 : Shape := ⟨2, ![8, 128]⟩
abbrev S43x512x128 : Shape := ⟨3, ![43, 512, 128]⟩
abbrev S1x512x36 : Shape := ⟨3, ![1, 512, 36]⟩
abbrev S504x128 : Shape := ⟨2, ![504, 128]⟩
abbrev S1x512x128 : Shape := ⟨3, ![1, 512, 128]⟩
abbrev S512x256 : Shape := ⟨2, ![512, 256]⟩
abbrev S512x512 : Shape := ⟨2, ![512, 512]⟩
abbrev S512x137 : Shape := ⟨2, ![512, 137]⟩

abbrev nBuf : Space → Nat
  | .hbm => 132
  | .vmem => 26
  | .smem => 0
  | _ => 0

abbrev hbmTy0_0 (i : Nat) : BufTy := match i % 128 with
  | 0 => ⟨S215x2048x36, .f32⟩
  | 1 => ⟨S2048x9, .f32⟩
  | 2 => ⟨S215x2048, .f32⟩
  | 3 => ⟨S2048, .i32⟩
  | 4 => ⟨S36x36, .f32⟩
  | 5 => ⟨S36, .f32⟩
  | 6 => ⟨S1x1, .f32⟩
  | 7 => ⟨S1, .f32⟩
  | 8 => ⟨S1, .f32⟩
  | 9 => ⟨S1, .f32⟩
  | 10 => ⟨S1x1, .f32⟩
  | 11 => ⟨S1, .f32⟩
  | 12 => ⟨S512x36, .f32⟩
  | 13 => ⟨S512, .f32⟩
  | 14 => ⟨S512x128, .f32⟩
  | 15 => ⟨S512, .f32⟩
  | 16 => ⟨S137x137, .f32⟩
  | 17 => ⟨S137, .f32⟩
  | 18 => ⟨S2x137, .f32⟩
  | 19 => ⟨S2, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1, .f32⟩
  | 39 => ⟨S1, .f32⟩
  | 40 => ⟨S1, .f32⟩
  | 41 => ⟨S1, .f32⟩
  | 42 => ⟨S1, .f32⟩
  | 43 => ⟨S1, .f32⟩
  | 44 => ⟨S6, .f32⟩
  | 45 => ⟨S1x6, .f32⟩
  | 46 => ⟨S_, .f32⟩
  | 47 => ⟨S36x128, .f32⟩
  | 48 => ⟨S36x36, .f32⟩
  | 49 => ⟨S_, .f32⟩
  | 50 => ⟨S_, .f32⟩
  | 51 => ⟨S36x36, .f32⟩
  | 52 => ⟨S36x36, .f32⟩
  | 53 => ⟨S_, .i32⟩
  | 54 => ⟨S1, .i32⟩
  | 55 => ⟨S36x128, .f32⟩
  | 56 => ⟨S_, .f32⟩
  | 57 => ⟨S1x128, .f32⟩
  | 58 => ⟨S_, .f32⟩
  | 59 => ⟨S_, .f32⟩
  | 60 => ⟨S36, .f32⟩
  | 61 => ⟨S36, .f32⟩
  | 62 => ⟨S36, .f32⟩
  | 63 => ⟨S36, .f32⟩
  | 64 => ⟨S_, .i32⟩
  | 65 => ⟨S1, .i32⟩
  | 66 => ⟨S_, .i32⟩
  | 67 => ⟨S1, .i32⟩
  | 68 => ⟨S2, .i32⟩
  | 69 => ⟨S1x128, .f32⟩
  | 70 => ⟨S_, .f32⟩
  | 71 => ⟨S_, .f32⟩
  | 72 => ⟨S_, .f32⟩
  | 73 => ⟨S_, .f32⟩
  | 74 => ⟨S1x128, .f32⟩
  | 75 => ⟨S_, .f32⟩
  | 76 => ⟨S_, .f32⟩
  | 77 => ⟨S_, .i32⟩
  | 78 => ⟨S1, .i32⟩
  | 79 => ⟨S_, .i32⟩
  | 80 => ⟨S1, .i32⟩
  | 81 => ⟨S2, .i32⟩
  | 82 => ⟨S1x128, .f32⟩
  | 83 => ⟨S_, .f32⟩
  | 84 => ⟨S256x512, .f32⟩
  | 85 => ⟨S36x512, .f32⟩
  | 86 => ⟨S_, .i32⟩
  | 87 => ⟨S1, .i32⟩
  | 88 => ⟨S256x512, .f32⟩
  | 89 => ⟨S512, .f32⟩
  | 90 => ⟨S_, .i32⟩
  | 91 => ⟨S1, .i32⟩
  | 92 => ⟨S256x512, .f32⟩
  | 93 => ⟨S128x512, .f32⟩
  | 94 => ⟨S_, .i32⟩
  | 95 => ⟨S1, .i32⟩
  | 96 => ⟨S256x512, .f32⟩
  | 97 => ⟨S_, .f32⟩
  | 98 => ⟨S128, .f32⟩
  | 99 => ⟨S_, .f32⟩
  | 100 => ⟨S128, .f32⟩
  | 101 => ⟨S_, .f32⟩
  | 102 => ⟨S128, .f32⟩
  | 103 => ⟨S_, .f32⟩
  | 104 => ⟨S128, .f32⟩
  | 105 => ⟨S512, .f32⟩
  | 106 => ⟨S1x512, .f32⟩
  | 107 => ⟨S256x512, .f32⟩
  | 108 => ⟨S256x512, .f32⟩
  | 109 => ⟨S128x512, .f32⟩
  | 110 => ⟨S_, .f32⟩
  | 111 => ⟨S128x512, .f32⟩
  | 112 => ⟨S128x512, .f32⟩
  | 113 => ⟨S_, .i32⟩
  | 114 => ⟨S1, .i32⟩
  | 115 => ⟨S256x512, .f32⟩
  | 116 => ⟨S2048, .f32⟩
  | 117 => ⟨S2048x1, .f32⟩
  | 118 => ⟨S_, .f32⟩
  | 119 => ⟨S2048x1, .f32⟩
  | 120 => ⟨S2048x1, .f32⟩
  | 121 => ⟨S_, .f32⟩
  | 122 => ⟨S2048x1, .f32⟩
  | 123 => ⟨S2048x1, .f32⟩
  | 124 => ⟨S137x128, .f32⟩
  | 125 => ⟨S128x137, .f32⟩
  | 126 => ⟨S137x9, .f32⟩
  | 127 => ⟨S9x137, .f32⟩
  | _ => ⟨S215x2048x36, .f32⟩

abbrev hbmTy0_1 (i : Nat) : BufTy := match i % 128 with
  | 0 => ⟨S1x137, .f32⟩
  | 1 => ⟨S137x2, .f32⟩
  | 2 => ⟨S1x2, .f32⟩
  | 3 => ⟨S2048x2, .f32⟩
  | _ => ⟨S215x2048x36, .f32⟩

abbrev hbmTy (i : Nat) : BufTy := match i / 128 with
  | 0 => hbmTy0_0 i
  | 1 => hbmTy0_1 i
  | _ => ⟨S215x2048x36, .f32⟩

abbrev bufTy : (tb : Table) → Fin (tcTables nBuf tb) → BufTy
  | .hbm, ⟨i, _⟩ => hbmTy i
  | .local _ .vmem, ⟨0, _⟩ => ⟨S43x512x36, .f32⟩
  | .local _ .vmem, ⟨1, _⟩ => ⟨S43x512x36, .f32⟩
  | .local _ .vmem, ⟨2, _⟩ => ⟨S1x6, .f32⟩
  | .local _ .vmem, ⟨3, _⟩ => ⟨S36x128, .f32⟩
  | .local _ .vmem, ⟨4, _⟩ => ⟨S1x128, .f32⟩
  | .local _ .vmem, ⟨5, _⟩ => ⟨S256x512, .f32⟩
  | .local _ .vmem, ⟨6, _⟩ => ⟨S1x128, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x9, .f32⟩
  | .local _ .vmem, ⟨12, _⟩ => ⟨S512x9, .f32⟩
  | .local _ .vmem, ⟨13, _⟩ => ⟨S128x137, .f32⟩
  | .local _ .vmem, ⟨14, _⟩ => ⟨S9x137, .f32⟩
  | .local _ .vmem, ⟨15, _⟩ => ⟨S1x137, .f32⟩
  | .local _ .vmem, ⟨16, _⟩ => ⟨S137x2, .f32⟩
  | .local _ .vmem, ⟨17, _⟩ => ⟨S1x2, .f32⟩
  | .local _ .vmem, ⟨18, _⟩ => ⟨S512x2, .f32⟩
  | .local _ .vmem, ⟨19, _⟩ => ⟨S512x2, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S8x128, .f32⟩
  | .local _ .vmem, ⟨24, _⟩ => ⟨S512x128, .f32⟩
  | .local _ .vmem, ⟨25, _⟩ => ⟨S43x512x128, .f32⟩
  | _, _ => ⟨S215x2048x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_cst_10 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_c_12 : Ref sig .tc := ⟨.hbm, 77, rfl⟩
abbrev main_v43 : Ref sig .tc := ⟨.hbm, 78, rfl⟩
abbrev main_c_13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_14 : Ref sig .tc := ⟨.hbm, 83, rfl⟩
abbrev main_v47 : Ref sig .tc := ⟨.hbm, 84, rfl⟩
abbrev main_v48 : Ref sig .tc := ⟨.hbm, 85, rfl⟩
abbrev main_c_15 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_17 : Ref sig .tc := ⟨.hbm, 94, rfl⟩
abbrev main_v55 : Ref sig .tc := ⟨.hbm, 95, rfl⟩
abbrev main_v56 : Ref sig .tc := ⟨.hbm, 96, rfl⟩
abbrev main_cst_18 : Ref sig .tc := ⟨.hbm, 97, rfl⟩
abbrev main_v57 : Ref sig .tc := ⟨.hbm, 98, rfl⟩
abbrev main_cst_19 : Ref sig .tc := ⟨.hbm, 99, rfl⟩
abbrev main_v58 : Ref sig .tc := ⟨.hbm, 100, rfl⟩
abbrev main_cst_20 : Ref sig .tc := ⟨.hbm, 101, rfl⟩
abbrev main_v59 : Ref sig .tc := ⟨.hbm, 102, rfl⟩
abbrev main_cst_21 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_22 : Ref sig .tc := ⟨.hbm, 110, rfl⟩
abbrev main_v66 : Ref sig .tc := ⟨.hbm, 111, rfl⟩
abbrev main_v67 : Ref sig .tc := ⟨.hbm, 112, rfl⟩
abbrev main_c_23 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_24 : Ref sig .tc := ⟨.hbm, 118, rfl⟩
abbrev main_v72 : Ref sig .tc := ⟨.hbm, 119, rfl⟩
abbrev main_v73 : Ref sig .tc := ⟨.hbm, 120, rfl⟩
abbrev main_cst_25 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32_890 : BitVec 32 := 4#32
  let v2869 : BitVec 1 := Scalar.cmpi .eq arg1 c4_i32_890
  let v2870 : BitVec 32 := Scalar.extui v2869
  let c0_i32_891 : BitVec 32 := 0#32
  let v2871 : BitVec 1 := Scalar.cmpi .ne v2870 c0_i32_891
  v2871

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S43x512x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S36x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S128x137 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S9x137 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x137 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S137x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S215x2048x36 : Shape := ⟨3, ![215, 2048, 36]⟩
abbrev S2048x9 : Shape := ⟨2, ![2048, 9]⟩
abbrev S215x2048 : Shape := ⟨2, ![215, 2048]⟩
abbrev S2048 : Shape := ⟨1, ![2048]⟩
abbrev S36x36 : Shape := ⟨2, ![36, 36]⟩
abbrev S36 : Shape := ⟨1, ![36]⟩
abbrev S1x1 : Shape := ⟨2, ![1, 1]⟩
abbrev S1 : Shape := ⟨1, ![1]⟩
abbrev S512x36 : Shape := ⟨2, ![512, 36]⟩
abbrev S512 : Shape := ⟨1, ![512]⟩
abbrev S512x128 : Shape := ⟨2, ![512, 128]⟩
abbrev S137x137 : Shape := ⟨2, ![137, 137]⟩
abbrev S137 : Shape := ⟨1, ![137]⟩
abbrev S2x137 : Shape := ⟨2, ![2, 137]⟩
abbrev S2 : Shape := ⟨1, ![2]⟩
abbrev S2592 : Shape := ⟨1, ![2592]⟩
abbrev S1x1x36 : Shape := ⟨3, ![1, 1, 36]⟩
abbrev S_ : Shape := ⟨0, ![]⟩
abbrev S215x73728 : Shape := ⟨2, ![215, 73728]⟩
abbrev S2592x1 : Shape := ⟨2, ![2592, 1]⟩
abbrev S215x2592 : Shape := ⟨2, ![215, 2592]⟩
abbrev S2048x128 : Shape := ⟨2, ![2048, 128]⟩
abbrev S215x2048x128 : Shape := ⟨3, ![215, 2048, 128]⟩
abbrev S1x2048x36 : Shape := ⟨3, ![1, 2048, 36]⟩
abbrev S2048x36 : Shape := ⟨2, ![2048, 36]⟩
abbrev S36x512 : Shape := ⟨2, ![36, 512]⟩
abbrev S2048x512 : Shape := ⟨2, ![2048, 512]⟩
abbrev S1x512 : Shape := ⟨2, ![1, 512]⟩
abbrev S128x512 : Shape := ⟨2, ![128, 512]⟩
abbrev S1x2048x128 : Shape := ⟨3, ![1, 2048, 128]⟩
abbrev S215 : Shape := ⟨1, ![215]⟩
abbrev S215x1 : Shape := ⟨2, ![215, 1]⟩
abbrev S1x2048 : Shape := ⟨2, ![1, 2048]⟩
abbrev S215x2048x1 : Shape := ⟨3, ![215, 2048, 1]⟩
abbrev S2048x1 : Shape := ⟨2, ![2048, 1]⟩
abbrev S2048x137 : Shape := ⟨2, ![2048, 137]⟩
abbrev S1x137 : Shape := ⟨2, ![1, 137]⟩
abbrev S137x2 : Shape := ⟨2, ![137, 2]⟩
abbrev S2048x2 : Shape := ⟨2, ![2048, 2]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S215x2048x36, .f32⟩
  | 1 => ⟨S2048x9, .f32⟩
  | 2 => ⟨S215x2048, .f32⟩
  | 3 => ⟨S2048, .i32⟩
  | 4 => ⟨S36x36, .f32⟩
  | 5 => ⟨S36, .f32⟩
  | 6 => ⟨S1x1, .f32⟩
  | 7 => ⟨S1, .f32⟩
  | 8 => ⟨S1, .f32⟩
  | 9 => ⟨S1, .f32⟩
  | 10 => ⟨S1x1, .f32⟩
  | 11 => ⟨S1, .f32⟩
  | 12 => ⟨S512x36, .f32⟩
  | 13 => ⟨S512, .f32⟩
  | 14 => ⟨S512x128, .f32⟩
  | 15 => ⟨S512, .f32⟩
  | 16 => ⟨S137x137, .f32⟩
  | 17 => ⟨S137, .f32⟩
  | 18 => ⟨S2x137, .f32⟩
  | 19 => ⟨S2, .f32⟩
  | 20 => ⟨S2592, .i32⟩
  | 21 => ⟨S2592, .i1⟩
  | 22 => ⟨S2592, .i32⟩
  | 23 => ⟨S2592, .i1⟩
  | 24 => ⟨S36x36, .f32⟩
  | 25 => ⟨S215x2048x36, .f32⟩
  | 26 => ⟨S1x1x36, .f32⟩
  | 27 => ⟨S215x2048x36, .f32⟩
  | 28 => ⟨S215x2048x36, .f32⟩
  | 29 => ⟨S_, .f32⟩
  | 30 => ⟨S215x2048x36, .f32⟩
  | 31 => ⟨S215x2048x36, .f32⟩
  | 32 => ⟨S215x73728, .f32⟩
  | 33 => ⟨S_, .f32⟩
  | 34 => ⟨S215x73728, .f32⟩
  | 35 => ⟨S_, .i32⟩
  | 36 => ⟨S2592, .i32⟩
  | 37 => ⟨S2592, .i32⟩
  | 38 => ⟨S2592, .i32⟩
  | 39 => ⟨S2592x1, .i32⟩
  | 40 => ⟨S215x2592, .f32⟩
  | 41 => ⟨S_, .i32⟩
  | 42 => ⟨S2592, .i32⟩
  | 43 => ⟨S2592, .i32⟩
  | 44 => ⟨S2592, .i32⟩
  | 45 => ⟨S2592x1, .i32⟩
  | 46 => ⟨S215x73728, .f32⟩
  | 47 => ⟨S215x73728, .f32⟩
  | 48 => ⟨S_, .f32⟩
  | 49 => ⟨S215x73728, .f32⟩
  | 50 => ⟨S215x73728, .f32⟩
  | 51 => ⟨S_, .f32⟩
  | 52 => ⟨S215x73728, .f32⟩
  | 53 => ⟨S215x73728, .f32⟩
  | 54 => ⟨S_, .f32⟩
  | 55 => ⟨S215x73728, .f32⟩
  | 56 => ⟨S215x73728, .f32⟩
  | 57 => ⟨S_, .f32⟩
  | 58 => ⟨S215x73728, .f32⟩
  | 59 => ⟨S215x73728, .f32⟩
  | 60 => ⟨S_, .f32⟩
  | 61 => ⟨S215x73728, .f32⟩
  | 62 => ⟨S215x73728, .f32⟩
  | 63 => ⟨S_, .f32⟩
  | 64 => ⟨S215x73728, .f32⟩
  | 65 => ⟨S215x73728, .f32⟩
  | 66 => ⟨S_, .f32⟩
  | 67 => ⟨S215x73728, .f32⟩
  | 68 => ⟨S215x73728, .f32⟩
  | 69 => ⟨S_, .f32⟩
  | 70 => ⟨S215x73728, .f32⟩
  | 71 => ⟨S215x73728, .f32⟩
  | 72 => ⟨S_, .f32⟩
  | 73 => ⟨S215x73728, .f32⟩
  | 74 => ⟨S215x73728, .f32⟩
  | 75 => ⟨S215x2048x36, .f32⟩
  | 76 => ⟨S_, .f32⟩
  | 77 => ⟨S2048x128, .f32⟩
  | 78 => ⟨S_, .f32⟩
  | 79 => ⟨S2048x128, .f32⟩
  | 80 => ⟨S_, .f32⟩
  | 81 => ⟨S215x2048x128, .f32⟩
  | 82 => ⟨S_, .i32⟩
  | 83 => ⟨S215x2048x36, .f32⟩
  | 84 => ⟨S512x36, .f32⟩
  | 85 => ⟨S512, .f32⟩
  | 86 => ⟨S512x128, .f32⟩
  | 87 => ⟨S512, .f32⟩
  | 88 => ⟨S_, .i32⟩
  | 89 => ⟨S2048x128, .f32⟩
  | 90 => ⟨S2048x128, .f32⟩
  | 91 => ⟨S215x2048x128, .f32⟩
  | 92 => ⟨S_, .i32⟩
  | 93 => ⟨S_, .i1⟩
  | 94 => ⟨S_, .i32⟩
  | 95 => ⟨S_, .i32⟩
  | 96 => ⟨S1x2048x36, .f32⟩
  | 97 => ⟨S2048x36, .f32⟩
  | 98 => ⟨S36x512, .f32⟩
  | 99 => ⟨S2048x512, .f32⟩
  | 100 => ⟨S1x512, .f32⟩
  | 101 => ⟨S2048x512, .f32⟩
  | 102 => ⟨S2048x512, .f32⟩
  | 103 => ⟨S128x512, .f32⟩
  | 104 => ⟨S2048x512, .f32⟩
  | 105 => ⟨S2048x512, .f32⟩
  | 106 => ⟨S1x512, .f32⟩
  | 107 => ⟨S2048x512, .f32⟩
  | 108 => ⟨S2048x512, .f32⟩
  | 109 => ⟨S2048x128, .f32⟩
  | 110 => ⟨S2048x128, .f32⟩
  | 111 => ⟨S2048x128, .f32⟩
  | 112 => ⟨S2048x128, .f32⟩
  | 113 => ⟨S2048x128, .f32⟩
  | 114 => ⟨S2048x128, .f32⟩
  | 115 => ⟨S_, .f32⟩
  | 116 => ⟨S2048x128, .f32⟩
  | 117 => ⟨S2048x128, .f32⟩
  | 118 => ⟨S_, .f32⟩
  | 119 => ⟨S2048x128, .f32⟩
  | 120 => ⟨S2048x128, .f32⟩
  | 121 => ⟨S2048x128, .f32⟩
  | 122 => ⟨S2048x128, .f32⟩
  | 123 => ⟨S2048x128, .f32⟩
  | 124 => ⟨S_, .f32⟩
  | 125 => ⟨S2048x128, .f32⟩
  | 126 => ⟨S2048x128, .f32⟩
  | 127 => ⟨S_, .f32⟩
  | _ => ⟨S215x2048x36, .f32⟩

abbrev hbmTy0_1 (i : Nat) : BufTy := match i % 128 with
  | 0 => ⟨S2048x128, .f32⟩
  | 1 => ⟨S2048x128, .f32⟩
  | 2 => ⟨S2048x128, .f32⟩
  | 3 => ⟨S2048x128, .f32⟩
  | 4 => ⟨S2048x128, .f32⟩
  | 5 => ⟨S2048x128, .f32⟩
  | 6 => ⟨S2048x128, .f32⟩
  | 7 => ⟨S_, .f32⟩
  | 8 => ⟨S2048x128, .f32⟩
  | 9 => ⟨S2048x128, .f32⟩
  | 10 => ⟨S_, .f32⟩
  | 11 => ⟨S2048x128, .f32⟩
  | 12 => ⟨S2048x128, .f32⟩
  | 13 => ⟨S2048x128, .f32⟩
  | 14 => ⟨S2048x128, .f32⟩
  | 15 => ⟨S1x2048x128, .f32⟩
  | 16 => ⟨S_, .i32⟩
  | 17 => ⟨S_, .i32⟩
  | 18 => ⟨S215x2048x128, .f32⟩
  | 19 => ⟨S_, .i32⟩
  | 20 => ⟨S_, .i32⟩
  | 21 => ⟨S215, .i32⟩
  | 22 => ⟨S215x1, .i32⟩
  | 23 => ⟨S1x2048, .i32⟩
  | 24 => ⟨S215x2048, .i32⟩
  | 25 => ⟨S215x2048, .i32⟩
  | 26 => ⟨S215x2048, .i1⟩
  | 27 => ⟨S215x2048, .f32⟩
  | 28 => ⟨S215x2048x1, .f32⟩
  | 29 => ⟨S215x2048x128, .f32⟩
  | 30 => ⟨S215x2048x128, .f32⟩
  | 31 => ⟨S_, .f32⟩
  | 32 => ⟨S2048x128, .f32⟩
  | 33 => ⟨S2048x1, .i32⟩
  | 34 => ⟨S2048x1, .f32⟩
  | 35 => ⟨S_, .f32⟩
  | 36 => ⟨S2048x1, .f32⟩
  | 37 => ⟨S2048x1, .f32⟩
  | 38 => ⟨S2048x128, .f32⟩
  | 39 => ⟨S2048x128, .f32⟩
  | 40 => ⟨S2048x137, .f32⟩
  | 41 => ⟨S137x137, .f32⟩
  | 42 => ⟨S2048x137, .f32⟩
  | 43 => ⟨S1x137, .f32⟩
  | 44 => ⟨S2048x137, .f32⟩
  | 45 => ⟨S2048x137, .f32⟩
  | 46 => ⟨S_, .f32⟩
  | 47 => ⟨S2048x137, .f32⟩
  | 48 => ⟨S2048x137, .f32⟩
  | 49 => ⟨S137x2, .f32⟩
  | 50 => ⟨S2048x2, .f32⟩
  | 51 => ⟨S1x2, .f32⟩
  | 52 => ⟨S2048x2, .f32⟩
  | 53 => ⟨S2048x2, .f32⟩
  | _ => ⟨S215x2048x36, .f32⟩

abbrev hbmTy (i : Nat) : BufTy := match i / 128 with
  | 0 => hbmTy0_0 i
  | 1 => hbmTy0_1 i
  | _ => ⟨S215x2048x36, .f32⟩

abbrev bufTy : (tb : Table) → Fin (tcTables nBuf tb) → BufTy
  | .hbm, ⟨i, _⟩ => hbmTy i
  | _, _ => ⟨S215x2048x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_3 : Ref sig .tc := ⟨.hbm, 33, rfl⟩
abbrev main_v8 : Ref sig .tc := ⟨.hbm, 34, rfl⟩
abbrev main_c_4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_5 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call0_cst : Ref sig .tc := ⟨.hbm, 63, rfl⟩
abbrev main_call0_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_call1_cst : Ref sig .tc := ⟨.hbm, 72, rfl⟩
abbrev main_call1_v0 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_c_10 : Ref sig .tc := ⟨.hbm, 82, rfl⟩
abbrev main_v46_0 : Ref sig .tc := ⟨.hbm, 83, rfl⟩
abbrev main_v46_1 : Ref sig .tc := ⟨.hbm, 84, rfl⟩
abbrev main_v46_2 : Ref sig .tc := ⟨.hbm, 85, rfl⟩
abbrev main_v46_3 : Ref sig .tc := ⟨.hbm, 86, rfl⟩
abbrev main_v46_4 : Ref sig .tc := ⟨.hbm, 87, rfl⟩
abbrev main_v46_5 : Ref sig .tc := ⟨.hbm, 88, rfl⟩
abbrev main_v46_6 : Ref sig .tc := ⟨.hbm, 89, rfl⟩
abbrev main_v46_7 : Ref sig .tc := ⟨.hbm, 90, rfl⟩
abbrev main_v46_8 : Ref sig .tc := ⟨.hbm, 91, rfl⟩
abbrev main_while0c_c_21 : Ref sig .tc := ⟨.hbm, 92, rfl⟩
abbrev main_while0c_v76 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_v0 : Ref sig .tc := ⟨.hbm, 96, rfl⟩
abbrev main_while0b_v76 : Ref sig .tc := ⟨.hbm, 97, rfl⟩
abbrev main_while0b_v77 : Ref sig .tc := ⟨.hbm, 98, rfl⟩
abbrev main_while0b_v78 : Ref sig .tc := ⟨.hbm, 99, rfl⟩
abbrev main_while0b_v79 : Ref sig .tc := ⟨.hbm, 100, rfl⟩
abbrev main_while0b_v80 : Ref sig .tc := ⟨.hbm, 101, rfl⟩
abbrev main_while0b_v81 : Ref sig .tc := ⟨.hbm, 102, rfl⟩
abbrev main_while0b_v82 : Ref sig .tc := ⟨.hbm, 103, rfl⟩
abbrev main_while0b_v83 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_cst_21 : Ref sig .tc := ⟨.hbm, 115, rfl⟩
abbrev main_while0b_v94 : Ref sig .tc := ⟨.hbm, 116, rfl⟩
abbrev main_while0b_v95 : Ref sig .tc := ⟨.hbm, 117, rfl⟩
abbrev main_while0b_cst_22 : Ref sig .tc := ⟨.hbm, 118, rfl⟩
abbrev main_while0b_v96 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_v100 : Ref sig .tc := ⟨.hbm, 123, rfl⟩
abbrev main_while0b_cst_23 : Ref sig .tc := ⟨.hbm, 124, rfl⟩
abbrev main_while0b_v101 : Ref sig .tc := ⟨.hbm, 125, rfl⟩
abbrev main_while0b_v102 : Ref sig .tc := ⟨.hbm, 126, rfl⟩
abbrev main_while0b_cst_24 : Ref sig .tc := ⟨.hbm, 127, rfl⟩
abbrev main_while0b_v103 : Ref sig .tc := ⟨.hbm, 128, rfl⟩
abbrev main_while0b_v104 : Ref sig .tc := ⟨.hbm, 129, rfl⟩
abbrev main_while0b_v105 : Ref sig .tc := ⟨.hbm, 130, rfl⟩
abbrev main_while0b_v106 : Ref sig .tc := ⟨.hbm, 131, rfl⟩
abbrev main_while0b_v107 : Ref sig .tc := ⟨.hbm, 132, rfl⟩
abbrev main_while0b_v108 : Ref sig .tc := ⟨.hbm, 133, rfl⟩
abbrev main_while0b_v109 : Ref sig .tc := ⟨.hbm, 134, rfl⟩
abbrev main_while0b_cst_25 : Ref sig .tc := ⟨.hbm, 135, rfl⟩
abbrev main_while0b_v110 : Ref sig .tc := ⟨.hbm, 136, rfl⟩
abbrev main_while0b_v111 : Ref sig .tc := ⟨.hbm, 137, rfl⟩
abbrev main_while0b_cst_26 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_call3_v0 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_v116 : Ref sig .tc := ⟨.hbm, 146, rfl⟩
abbrev main_while0b_c_27 : Ref sig .tc := ⟨.hbm, 147, rfl⟩
abbrev main_while0b_v117 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_cst_11 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_cst_12 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_call4_cst : Ref sig .tc := ⟨.hbm, 174, rfl⟩
abbrev main_call4_v0 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩

abbrev nD : Nat := 1
abbrev τ : Topo := Topo.v7x

variable {F : FTy → Type} [FloatOps F]

abbrev main_while0_count : Scf.Loop 32 := ⟨0#32, 215#32, 1#32⟩
-- ==== Proof.Tile.lean ====
module
public import proofs.«01_k».proof.Proof.Gen.KernelIdeal.Skeleton
public import Idealize.ShloMosaic.Lib.Pipeline.FrameBody
public import Idealize.ShloMosaic.Lib.Pipeline.Value
public import Idealize.ShloMosaic.Lib.Pipeline.ReadBack
@[expose] public section

/-!
# What one grid point of the kernel computes, as functions of tiles

A grid point encodes 43 time slabs of 512 batch rows into a buffer, then runs 43 steps of the recurrence over
that buffer.  `enc` is the encoding of one slab, `step` one step of the recurrence, `run` the steps in a row.
-/

set_option maxRecDepth 10000

noncomputable section
namespace Cert.KernelIdeal.Tile
open Cert.KernelIdeal Cert.KernelIdeal.Gen Idealize.ShloMosaic
variable {F : FTy → Type} [FloatOps F]

/-- The recurrent state of 512 batch rows: twice the hidden state, the cell state, twice the running pool. -/
abbrev St (F : FTy → Type) := Vec F S512x128 .f32 × Vec F S512x128 .f32 × Vec F S512x128 .f32

/-- One step of the recurrence at local time `n` of time block `a1`, on the encoded slab `g`. -/
def step (a1 : BitVec 32) (W : FVec F S256x512 .f32) (lenb : Vec F S512x128 .f32) (n : ℕ)
    (g : Vec F S1x512x128 .f32) (s : St F) : St F :=
  ⟨k0_pay109 s.2.1 (k0_pay105 W s.1 g) (k0_pay106 W s.1 g) (k0_pay107 W s.1 g),
   k0_pay108 s.2.1 (k0_pay105 W s.1 g) (k0_pay106 W s.1 g) (k0_pay107 W s.1 g),
   k0_pay110 lenb s.2.1 s.2.2 (Scalar.sitofp .f32 (Scalar.addi (Scalar.muli a1 43#32) (BitVec.ofNat 32 n)))
     (k0_pay105 W s.1 g) (k0_pay106 W s.1 g) (k0_pay107 W s.1 g)⟩

/-- The first `n` steps of a time block, slab `k` encoded as `g k`. -/
def run (a1 : BitVec 32) (W : FVec F S256x512 .f32) (lenb : Vec F S512x128 .f32)
    (g : ℕ → Vec F S1x512x128 .f32) (s : St F) : ℕ → St F
  | 0 => s
  | n + 1 => step a1 W lenb n (g n) (run a1 W lenb g s n)

theorem inb_src (n : ℕ) (h : n < 43) : ∀ a, (![n, 0, 0] : Fin 3 → ℕ) a + S1x512x36.size a ≤ S43x512x36.size a := by
  intro a; fin_cases a
  · show n + 1 ≤ 43; omega
  · exact Nat.le_refl _
  · exact Nat.le_refl _

theorem inb_buf (n : ℕ) (h : n < 43) : ∀ a, (![n, 0, 0] : Fin 3 → ℕ) a + S1x512x128.size a ≤ S43x512x128.size a := by
  intro a; fin_cases a
  · show n + 1 ≤ 43; omega
  · exact Nat.le_refl _
  · exact Nat.le_refl _

/-- Time slab `n` of a source block. -/
def srcSlab (x : Vec F S43x512x36 .f32) (n : ℕ) : Vec F S1x512x36 .f32 :=
  if h : n < 43 then View.ld x (Rect.unit (s := S43x512x36) ![n, 0, 0] S1x512x36.size (inb_src n h))
  else constant S1x512x36 .f32 0

/-- The encoding of time slab `n`: the scalars, the encoder's weights and bias, the row of ones for the bias lane,
and the mask of the corrected row are the grid point's blocks. -/
def enc (x : Vec F S43x512x36 .f32) (scal : Vec F S1x6 .f32) (w : Vec F S36x128 .f32) (b : Vec F S1x128 .f32)
    (adj : Vec F S1x128 .f32) (m8 : Vec F S8x128 .f32) (n : ℕ) : Vec F S1x512x128 .f32 :=
  k0_pay21 (k0_pay8 (View.ld scal (Rect.unit (s := S1x6) ![0, 2] S1x1.size inb_S1x6_S1x1_0_2)))
    (k0_pay9 (View.ld scal (Rect.unit (s := S1x6) ![0, 3] S1x1.size inb_S1x6_S1x1_0_3)))
    (k0_pay10 (View.ld scal (Rect.unit (s := S1x6) ![0, 4] S1x1.size inb_S1x6_S1x1_0_4)))
    (k0_pay11 w) (k0_pay12 b) (k0_pay14 adj) m8 (srcSlab x n)

/-- The stores of the first `n` encoded slabs into the buffer, last first. -/
def pieces (g : ℕ → Vec F S1x512x128 .f32) : ℕ → List (View.Piece (Elt F) S43x512x128 .f32)
  | 0 => []
  | n + 1 => if h : n < 43 then ⟨Rect.unit (s := S43x512x128) ![n, 0, 0] S1x512x128.size (inb_buf n h), g n⟩ :: pieces g n
      else pieces g n

/-- Slab `n` of the buffer after the stores `L`. -/
def slabs (v : View sig .tc .vmem S43x512x128 .f32) (L : List (View.Piece (Elt F) S43x512x128 .f32)) (n : ℕ) :
    Vec F S1x512x128 .f32 :=
  if h : n < 43 then v.readCov L (Rect.unit (s := S43x512x128) ![n, 0, 0] S1x512x128.size (inb_buf n h)).toLoadRect
  else constant S1x512x128 .f32 0

theorem disj_buf (n k : ℕ) (hn : n < 43) (hk : k < 43) (h : n < k) :
    LoadRect.disj (Rect.unit (s := S43x512x128) ![k, 0, 0] S1x512x128.size (inb_buf k hk))
      (Rect.unit (s := S43x512x128) ![n, 0, 0] S1x512x128.size (inb_buf n hn)).toLoadRect = true := by
  unfold LoadRect.disj
  rw [decide_eq_true_iff]
  refine ⟨(0 : Fin 3), Or.inr (Or.inr (Or.inr ?_))⟩
  show n + 1 * (1 - 1) < k
  omega

theorem skip_buf (v : View sig .tc .vmem S43x512x128 .f32) (w : Vec F S1x512x128 .f32)
    (L : List (View.Piece (Elt F) S43x512x128 .f32)) (n k : ℕ) (hn : n < 43) (hk : k < 43) (h : n < k) :
    v.readCov (⟨Rect.unit (s := S43x512x128) ![k, 0, 0] S1x512x128.size (inb_buf k hk), w⟩ :: L)
        (Rect.unit (s := S43x512x128) ![n, 0, 0] S1x512x128.size (inb_buf n hn)).toLoadRect =
      v.readCov L (Rect.unit (s := S43x512x128) ![n, 0, 0] S1x512x128.size (inb_buf n hn)).toLoadRect :=
  View.readCov_skip v (Rect.unit (s := S43x512x128) ![k, 0, 0] S1x512x128.size (inb_buf k hk)) w L
    (Rect.unit (s := S43x512x128) ![n, 0, 0] S1x512x128.size (inb_buf n hn)).toLoadRect (disj_buf n k hn hk h)

/-- A slab read back is the slab stored. -/
theorem slabs_pieces (v : View sig .tc .vmem S43x512x128 .f32) (g : ℕ → Vec F S1x512x128 .f32) (N n : ℕ) (hN : N ≤ 43)
    (hn : n < N) : slabs v (pieces g N) n = g n := by
  induction N with
  | zero => omega
  | succ N ih =>
    have hn43 : n < 43 := by omega
    have hN43 : N < 43 := by omega
    rw [slabs, dif_pos hn43, pieces, dif_pos hN43]
    by_cases e : n = N
    · subst e; exact View.readCov_cons_toLoadRect _ _ _ _
    · rw [skip_buf v _ _ n N hn43 hN43 (by omega)]
      have := ih (by omega) (by omega)
      rwa [slabs, dif_pos hn43] at this

/-- Only the first `N` slabs matter to the first `N` steps. -/
theorem run_congr (a1 : BitVec 32) (W : FVec F S256x512 .f32) (lenb : Vec F S512x128 .f32)
    (g g' : ℕ → Vec F S1x512x128 .f32) (s : St F) (N : ℕ) (h : ∀ n < N, g n = g' n) :
    run a1 W lenb g s N = run a1 W lenb g' s N := by
  induction N with
  | zero => rfl
  | succ N ih => simp only [run]; rw [ih fun n hn => h n (by omega), h N (by omega)]

theorem run_slabs (a1 : BitVec 32) (W : FVec F S256x512 .f32) (lenb : Vec F S512x128 .f32) (v : View sig .tc .vmem S43x512x128 .f32)
    (g : ℕ → Vec F S1x512x128 .f32) (s : St F) :
    run a1 W lenb (slabs v (pieces g 43)) s 43 = run a1 W lenb g s 43 :=
  run_congr _ _ _ _ _ _ _ fun n hn => slabs_pieces v g 43 n (Nat.le_refl _) hn

/-- The state a grid point leaves, from its blocks, the mask of the corrected row, the lengths and the state before. -/
def point (i : grid0.Coords) (x0 : Vec F S43x512x36 .f32) (x1 : Vec F S1x6 .f32) (x2 : Vec F S36x128 .f32)
    (x3 : Vec F S1x128 .f32) (x4 : Vec F S256x512 .f32) (x5 : Vec F S1x128 .f32) (m8 : Vec F S8x128 .f32)
    (lenb : Vec F S512x128 .f32) (s : St F) : St F :=
  run (BitVec.ofNat 32 (i 1).val) x4 lenb (enc x0 x1 x2 x3 x5 m8) s 43

theorem off2_zero : (![0, 0] : Fin 2 → ℕ) = fun _ => 0 := by
  funext a; fin_cases a <;> rfl

theorem pay13_eq (x : Vec F S256x512 .f32) : k0_pay13 x = x := shapeCast_self _ _

end Cert.KernelIdeal.Tile
-- ==== Proof.CaseA.lean ====
module
public import proofs.«01_k».proof.Proof.Tile
public import proofs.«01_k».proof.Proof.Gen.KernelIdeal.Frame
public import proofs.«01_k».proof.Proof.Gen.KernelIdeal.Frame.RunA
import all proofs.«01_k».proof.Proof.Gen.KernelIdeal.Frame.RunA
@[expose] public section

/-!
# The first grid point of a batch block

The point starts the state from zeros and stores the mask of the corrected row and the lengths.
-/

set_option maxRecDepth 10000

noncomputable section
namespace Cert.KernelIdeal.Tile
open Cert.KernelIdeal Cert.KernelIdeal.Gen Idealize.ShloMosaic
variable {F : FTy → Type} [FloatOps F]

variable
  (c : Dev nD) (i : grid0.Coords) (arg2 : Memref sig .tc .vmem S43x512x36 .f32) (harg2 : arg2.IsWhole)
  (arg3 : Memref sig .tc .vmem S1x6 .f32) (harg3 : arg3.IsWhole) (arg4 : Memref sig .tc .vmem S36x128 .f32)
  (harg4 : arg4.IsWhole) (arg5 : Memref sig .tc .vmem S1x128 .f32) (harg5 : arg5.IsWhole)
  (arg6 : Memref sig .tc .vmem S256x512 .f32) (harg6 : arg6.IsWhole) (arg7 : Memref sig .tc .vmem S1x128 .f32)
  (harg7 : arg7.IsWhole) (arg8 : Memref sig .tc .vmem S512x1 .f32) (harg8 : arg8.IsWhole)
  (arg9 : Memref sig .tc .vmem S512x1 .f32) (harg9 : arg9.IsWhole) (arg10 : Memref sig .tc .vmem S512x9 .f32)
  (harg10 : arg10.IsWhole) (arg11 : Memref sig .tc .vmem S128x137 .f32) (harg11 : arg11.IsWhole)
  (arg12 : Memref sig .tc .vmem S9x137 .f32) (harg12 : arg12.IsWhole) (arg13 : Memref sig .tc .vmem S1x137 .f32)
  (harg13 : arg13.IsWhole) (arg14 : Memref sig .tc .vmem S137x2 .f32) (harg14 : arg14.IsWhole)
  (arg15 : Memref sig .tc .vmem S1x2 .f32) (harg15 : arg15.IsWhole) (arg16 : Memref sig .tc .vmem S512x2 .f32)
  (harg16 : arg16.IsWhole) (arg17 : Memref sig .tc .vmem S512x128 .f32) (harg17 : arg17.IsWhole)
  (arg18 : Memref sig .tc .vmem S512x128 .f32) (harg18 : arg18.IsWhole) (arg19 : Memref sig .tc .vmem S512x128 .f32)
  (harg19 : arg19.IsWhole) (arg20 : Memref sig .tc .vmem S8x128 .f32) (harg20 : arg20.IsWhole)
  (arg21 : Memref sig .tc .vmem S512x128 .f32) (harg21 : arg21.IsWhole)
  (arg22 : Memref sig .tc .vmem S43x512x128 .f32) (harg22 : arg22.IsWhole) (hc0 : cond0_0 i) (hc1 : ¬cond0_1 i)
  (x0 : Vec F S43x512x36 .f32) (x1 : Vec F S1x6 .f32) (x2 : Vec F S36x128 .f32) (x3 : Vec F S1x128 .f32)
  (x4 : Vec F S256x512 .f32) (x5 : Vec F S1x128 .f32) (x6 : Vec F S512x1 .f32) (x7 : Vec F S512x1 .f32)
  (x8 : Vec F S512x9 .f32) (x9 : Vec F S128x137 .f32) (x10 : Vec F S9x137 .f32) (x11 : Vec F S1x137 .f32)
  (x12 : Vec F S137x2 .f32) (x13 : Vec F S1x2 .f32)

theorem A_raw0 :
    (kernelRun0_A
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13).2.1 =
      ⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (arg21.view.readCov [⟨Rect.unit (s := S512x128) ![0, 0] S512x128.size inb_S512x128_S512x128_0_0, k0_pay7 (View.ld (arg8.view.read (Elt F) (harg8.unread x6)) (Rect.unit (s := S512x1) ![0, 0] S512x1.size inb_S512x1_S512x1_0_0))⟩]
          (Rect.unit (s := S512x128) ![0, 0] S512x128.size inb_S512x128_S512x128_0_0).toLoadRect)
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (arg20.view.readCov [⟨Rect.unit (s := S8x128) ![0, 0] S8x128.size inb_S8x128_S8x128_0_0, k0_pay6 i⟩]
          (Rect.unit (s := S8x128) ![0, 0] S8x128.size inb_S8x128_S8x128_0_0).toLoadRect)) 43))
        ⟨(arg17.view.readCov [⟨Rect.unit (s := S512x128) ![0, 0] S512x128.size inb_S512x128_S512x128_0_0, k0_pay3⟩]
          (Rect.unit (s := S512x128) ![0, 0] S512x128.size inb_S512x128_S512x128_0_0).toLoadRect),
         (arg18.view.readCov [⟨Rect.unit (s := S512x128) ![0, 0] S512x128.size inb_S512x128_S512x128_0_0, k0_pay4⟩]
          (Rect.unit (s := S512x128) ![0, 0] S512x128.size inb_S512x128_S512x128_0_0).toLoadRect),
         (arg19.view.readCov [⟨Rect.unit (s := S512x128) ![0, 0] S512x128.size inb_S512x128_S512x128_0_0, k0_pay5⟩]
          (Rect.unit (s := S512x128) ![0, 0] S512x128.size inb_S512x128_S512x128_0_0).toLoadRect)⟩ 43).1 shapeCasts_S512x128_S512x128⟩ :: [⟨Rect.unit (s := S512x128) ![0, 0] S512x128.size inb_S512x128_S512x128_0_0, k0_pay3⟩] := by
  rfl

theorem A_raw1 :
    (kernelRun0_A
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13).2.2.1 =
      ⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (arg21.view.readCov [⟨Rect.unit (s := S512x128) ![0, 0] S512x128.size inb_S512x128_S512x128_0_0, k0_pay7 (View.ld (arg8.view.read (Elt F) (harg8.unread x6)) (Rect.unit (s := S512x1) ![0, 0] S512x1.size inb_S512x1_S512x1_0_0))⟩]
          (Rect.unit (s := S512x128) ![0, 0] S512x128.size inb_S512x128_S512x128_0_0).toLoadRect)
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (arg20.view.readCov [⟨Rect.unit (s := S8x128) ![0, 0] S8x128.size inb_S8x128_S8x128_0_0, k0_pay6 i⟩]
          (Rect.unit (s := S8x128) ![0, 0] S8x128.size inb_S8x128_S8x128_0_0).toLoadRect)) 43))
        ⟨(arg17.view.readCov [⟨Rect.unit (s := S512x128) ![0, 0] S512x128.size inb_S512x128_S512x128_0_0, k0_pay3⟩]
          (Rect.unit (s := S512x128) ![0, 0] S512x128.size inb_S512x128_S512x128_0_0).toLoadRect),
         (arg18.view.readCov [⟨Rect.unit (s := S512x128) ![0, 0] S512x128.size inb_S512x128_S512x128_0_0, k0_pay4⟩]
          (Rect.unit (s := S512x128) ![0, 0] S512x128.size inb_S512x128_S512x128_0_0).toLoadRect),
         (arg19.view.readCov [⟨Rect.unit (s := S512x128) ![0, 0] S512x128.size inb_S512x128_S512x128_0_0, k0_pay5⟩]
          (Rect.unit (s := S512x128) ![0, 0] S512x128.size inb_S512x128_S512x128_0_0).toLoadRect)⟩ 43).2.1 shapeCasts_S512x128_S512x128⟩ :: [⟨Rect.unit (s := S512x128) ![0, 0] S512x128.size inb_S512x128_S512x128_0_0, k0_pay4⟩] := by
  rfl

theorem A_raw2 :
    (kernelRun0_A
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13).2.2.2.1 =
      ⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (arg21.view.readCov [⟨Rect.unit (s := S512x128) ![0, 0] S512x128.size inb_S512x128_S512x128_0_0, k0_pay7 (View.ld (arg8.view.read (Elt F) (harg8.unread x6)) (Rect.unit (s := S512x1) ![0, 0] S512x1.size inb_S512x1_S512x1_0_0))⟩]
          (Rect.unit (s := S512x128) ![0, 0] S512x128.size inb_S512x128_S512x128_0_0).toLoadRect)
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (arg20.view.readCov [⟨Rect.unit (s := S8x128) ![0, 0] S8x128.size inb_S8x128_S8x128_0_0, k0_pay6 i⟩]
          (Rect.unit (s := S8x128) ![0, 0] S8x128.size inb_S8x128_S8x128_0_0).toLoadRect)) 43))
        ⟨(arg17.view.readCov [⟨Rect.unit (s := S512x128) ![0, 0] S512x128.size inb_S512x128_S512x128_0_0, k0_pay3⟩]
          (Rect.unit (s := S512x128) ![0, 0] S512x128.size inb_S512x128_S512x128_0_0).toLoadRect),
         (arg18.view.readCov [⟨Rect.unit (s := S512x128) ![0, 0] S512x128.size inb_S512x128_S512x128_0_0, k0_pay4⟩]
          (Rect.unit (s := S512x128) ![0, 0] S512x128.size inb_S512x128_S512x128_0_0).toLoadRect),
         (arg19.view.readCov [⟨Rect.unit (s := S512x128) ![0, 0] S512x128.size inb_S512x128_S512x128_0_0, k0_pay5⟩]
          (Rect.unit (s := S512x128) ![0, 0] S512x128.size inb_S512x128_S512x128_0_0).toLoadRect)⟩ 43).2.2 shapeCasts_S512x128_S512x128⟩ :: [⟨Rect.unit (s := S512x128) ![0, 0] S512x128.size inb_S512x128_S512x128_0_0, k0_pay5⟩] := by
  rfl

theorem A_raw3 :
    (kernelRun0_A
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13).2.2.2.2.1 =
      [⟨Rect.unit (s := S8x128) ![0, 0] S8x128.size inb_S8x128_S8x128_0_0, k0_pay6 i⟩] := by
  rfl

theorem A_raw4 :
    (kernelRun0_A
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13).2.2.2.2.2.1 =
      [⟨Rect.unit (s := S512x128) ![0, 0] S512x128.size inb_S512x128_S512x128_0_0, k0_pay7 (View.ld (arg8.view.read (Elt F) (harg8.unread x6)) (Rect.unit (s := S512x1) ![0, 0] S512x1.size inb_S512x1_S512x1_0_0))⟩] := by
  rfl

theorem sout_A_0 :
    sout0_A_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 =
      (point i x0 x1 x2 x3 x4 x5 (k0_pay6 i) (k0_pay7 x6) ⟨k0_pay3, k0_pay4, k0_pay5⟩).1 := by
  unfold sout0_A_0
  rw [View.read_writes_eq_canon _ _ _ (scover0_A_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13),
    A_raw0, View.canon_cons_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, View.readCov_unit_zero (S := S512x128) _ off2_zero,
    View.readCov_unit_zero (S := S8x128) _ off2_zero, pay13_eq, point]

theorem sout_A_1 :
    sout0_A_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 =
      (point i x0 x1 x2 x3 x4 x5 (k0_pay6 i) (k0_pay7 x6) ⟨k0_pay3, k0_pay4, k0_pay5⟩).2.1 := by
  unfold sout0_A_1
  rw [View.read_writes_eq_canon _ _ _ (scover0_A_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13),
    A_raw1, View.canon_cons_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, View.readCov_unit_zero (S := S512x128) _ off2_zero,
    View.readCov_unit_zero (S := S8x128) _ off2_zero, pay13_eq, point]

theorem sout_A_2 :
    sout0_A_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 =
      (point i x0 x1 x2 x3 x4 x5 (k0_pay6 i) (k0_pay7 x6) ⟨k0_pay3, k0_pay4, k0_pay5⟩).2.2 := by
  unfold sout0_A_2
  rw [View.read_writes_eq_canon _ _ _ (scover0_A_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13),
    A_raw2, View.canon_cons_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, View.readCov_unit_zero (S := S512x128) _ off2_zero,
    View.readCov_unit_zero (S := S8x128) _ off2_zero, pay13_eq, point]

theorem sout_A_3 :
    sout0_A_3
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 =
      k0_pay6 i := by
  unfold sout0_A_3
  rw [View.read_writes_eq_canon _ _ _ (scover0_A_3
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13),
    A_raw3, View.canon_unit_zero off2_zero]

theorem sout_A_4 :
    sout0_A_4
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 =
      k0_pay7 x6 := by
  unfold sout0_A_4
  rw [View.read_writes_eq_canon _ _ _ (scover0_A_4
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13),
    A_raw4, View.canon_unit_zero off2_zero, Memref.IsWhole.read_unread, View.ld_unit_zero (S := S512x1) off2_zero]

end Cert.KernelIdeal.Tile
-- ==== Proof.CaseB.lean ====
module
public import proofs.«01_k».proof.Proof.Tile
public import proofs.«01_k».proof.Proof.Gen.KernelIdeal.Frame
public import proofs.«01_k».proof.Proof.Gen.KernelIdeal.Frame.RunB
import all proofs.«01_k».proof.Proof.Gen.KernelIdeal.Frame.RunB
@[expose] public section

/-!
# A middle grid point of a batch block

The point continues from the state `xs0`, `xs1`, `xs2` the point before left.
-/

set_option maxRecDepth 10000

noncomputable section
namespace Cert.KernelIdeal.Tile
open Cert.KernelIdeal Cert.KernelIdeal.Gen Idealize.ShloMosaic
variable {F : FTy → Type} [FloatOps F]

variable
  (c : Dev nD) (i : grid0.Coords) (arg2 : Memref sig .tc .vmem S43x512x36 .f32) (harg2 : arg2.IsWhole)
  (arg3 : Memref sig .tc .vmem S1x6 .f32) (harg3 : arg3.IsWhole) (arg4 : Memref sig .tc .vmem S36x128 .f32)
  (harg4 : arg4.IsWhole) (arg5 : Memref sig .tc .vmem S1x128 .f32) (harg5 : arg5.IsWhole)
  (arg6 : Memref sig .tc .vmem S256x512 .f32) (harg6 : arg6.IsWhole) (arg7 : Memref sig .tc .vmem S1x128 .f32)
  (harg7 : arg7.IsWhole) (arg8 : Memref sig .tc .vmem S512x1 .f32) (harg8 : arg8.IsWhole)
  (arg9 : Memref sig .tc .vmem S512x1 .f32) (harg9 : arg9.IsWhole) (arg10 : Memref sig .tc .vmem S512x9 .f32)
  (harg10 : arg10.IsWhole) (arg11 : Memref sig .tc .vmem S128x137 .f32) (harg11 : arg11.IsWhole)
  (arg12 : Memref sig .tc .vmem S9x137 .f32) (harg12 : arg12.IsWhole) (arg13 : Memref sig .tc .vmem S1x137 .f32)
  (harg13 : arg13.IsWhole) (arg14 : Memref sig .tc .vmem S137x2 .f32) (harg14 : arg14.IsWhole)
  (arg15 : Memref sig .tc .vmem S1x2 .f32) (harg15 : arg15.IsWhole) (arg16 : Memref sig .tc .vmem S512x2 .f32)
  (harg16 : arg16.IsWhole) (arg17 : Memref sig .tc .vmem S512x128 .f32) (harg17 : arg17.IsWhole)
  (arg18 : Memref sig .tc .vmem S512x128 .f32) (harg18 : arg18.IsWhole) (arg19 : Memref sig .tc .vmem S512x128 .f32)
  (harg19 : arg19.IsWhole) (arg20 : Memref sig .tc .vmem S8x128 .f32) (harg20 : arg20.IsWhole)
  (arg21 : Memref sig .tc .vmem S512x128 .f32) (harg21 : arg21.IsWhole)
  (arg22 : Memref sig .tc .vmem S43x512x128 .f32) (harg22 : arg22.IsWhole) (hc0 : ¬cond0_0 i) (hc1 : ¬cond0_1 i)
  (x0 : Vec F S43x512x36 .f32) (x1 : Vec F S1x6 .f32) (x2 : Vec F S36x128 .f32) (x3 : Vec F S1x128 .f32)
  (x4 : Vec F S256x512 .f32) (x5 : Vec F S1x128 .f32) (x6 : Vec F S512x1 .f32) (x7 : Vec F S512x1 .f32)
  (x8 : Vec F S512x9 .f32) (x9 : Vec F S128x137 .f32) (x10 : Vec F S9x137 .f32) (x11 : Vec F S1x137 .f32)
  (x12 : Vec F S137x2 .f32) (x13 : Vec F S1x2 .f32) (xs0 : Vec F S512x128 .f32) (xs1 : Vec F S512x128 .f32)
  (xs2 : Vec F S512x128 .f32) (xs3 : Vec F S8x128 .f32) (xs4 : Vec F S512x128 .f32)

theorem B_raw0 :
    (kernelRun0_B
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).1 shapeCasts_S512x128_S512x128⟩] := by
  rfl

theorem B_raw1 :
    (kernelRun0_B
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).2.1 shapeCasts_S512x128_S512x128⟩] := by
  rfl

theorem B_raw2 :
    (kernelRun0_B
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.2.2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).2.2 shapeCasts_S512x128_S512x128⟩] := by
  rfl

theorem sout_B_0 :
    sout0_B_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).1 := by
  unfold sout0_B_0
  rw [View.read_writes_eq_canon _ _ _ (scover0_B_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    B_raw0, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

theorem sout_B_1 :
    sout0_B_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).2.1 := by
  unfold sout0_B_1
  rw [View.read_writes_eq_canon _ _ _ (scover0_B_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    B_raw1, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

theorem sout_B_2 :
    sout0_B_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).2.2 := by
  unfold sout0_B_2
  rw [View.read_writes_eq_canon _ _ _ (scover0_B_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    B_raw2, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

end Cert.KernelIdeal.Tile
-- ==== Proof.CaseC.lean ====
module
public import proofs.«01_k».proof.Proof.Tile
public import proofs.«01_k».proof.Proof.Gen.KernelIdeal.Frame
public import proofs.«01_k».proof.Proof.Gen.KernelIdeal.Frame.RunC
import all proofs.«01_k».proof.Proof.Gen.KernelIdeal.Frame.RunC
@[expose] public section

/-!
# The last grid point of a batch block

The point continues from the state `xs0`, `xs1`, `xs2` the point before left, and stores the output block.
-/

set_option maxRecDepth 10000

noncomputable section
namespace Cert.KernelIdeal.Tile
open Cert.KernelIdeal Cert.KernelIdeal.Gen Idealize.ShloMosaic
variable {F : FTy → Type} [FloatOps F]

variable
  (c : Dev nD) (i : grid0.Coords) (arg2 : Memref sig .tc .vmem S43x512x36 .f32) (harg2 : arg2.IsWhole)
  (arg3 : Memref sig .tc .vmem S1x6 .f32) (harg3 : arg3.IsWhole) (arg4 : Memref sig .tc .vmem S36x128 .f32)
  (harg4 : arg4.IsWhole) (arg5 : Memref sig .tc .vmem S1x128 .f32) (harg5 : arg5.IsWhole)
  (arg6 : Memref sig .tc .vmem S256x512 .f32) (harg6 : arg6.IsWhole) (arg7 : Memref sig .tc .vmem S1x128 .f32)
  (harg7 : arg7.IsWhole) (arg8 : Memref sig .tc .vmem S512x1 .f32) (harg8 : arg8.IsWhole)
  (arg9 : Memref sig .tc .vmem S512x1 .f32) (harg9 : arg9.IsWhole) (arg10 : Memref sig .tc .vmem S512x9 .f32)
  (harg10 : arg10.IsWhole) (arg11 : Memref sig .tc .vmem S128x137 .f32) (harg11 : arg11.IsWhole)
  (arg12 : Memref sig .tc .vmem S9x137 .f32) (harg12 : arg12.IsWhole) (arg13 : Memref sig .tc .vmem S1x137 .f32)
  (harg13 : arg13.IsWhole) (arg14 : Memref sig .tc .vmem S137x2 .f32) (harg14 : arg14.IsWhole)
  (arg15 : Memref sig .tc .vmem S1x2 .f32) (harg15 : arg15.IsWhole) (arg16 : Memref sig .tc .vmem S512x2 .f32)
  (harg16 : arg16.IsWhole) (arg17 : Memref sig .tc .vmem S512x128 .f32) (harg17 : arg17.IsWhole)
  (arg18 : Memref sig .tc .vmem S512x128 .f32) (harg18 : arg18.IsWhole) (arg19 : Memref sig .tc .vmem S512x128 .f32)
  (harg19 : arg19.IsWhole) (arg20 : Memref sig .tc .vmem S8x128 .f32) (harg20 : arg20.IsWhole)
  (arg21 : Memref sig .tc .vmem S512x128 .f32) (harg21 : arg21.IsWhole)
  (arg22 : Memref sig .tc .vmem S43x512x128 .f32) (harg22 : arg22.IsWhole) (hc0 : ¬cond0_0 i) (hc1 : cond0_1 i)
  (x0 : Vec F S43x512x36 .f32) (x1 : Vec F S1x6 .f32) (x2 : Vec F S36x128 .f32) (x3 : Vec F S1x128 .f32)
  (x4 : Vec F S256x512 .f32) (x5 : Vec F S1x128 .f32) (x6 : Vec F S512x1 .f32) (x7 : Vec F S512x1 .f32)
  (x8 : Vec F S512x9 .f32) (x9 : Vec F S128x137 .f32) (x10 : Vec F S9x137 .f32) (x11 : Vec F S1x137 .f32)
  (x12 : Vec F S137x2 .f32) (x13 : Vec F S1x2 .f32) (xs0 : Vec F S512x128 .f32) (xs1 : Vec F S512x128 .f32)
  (xs2 : Vec F S512x128 .f32) (xs3 : Vec F S8x128 .f32) (xs4 : Vec F S512x128 .f32)

theorem C_raw0 :
    (kernelRun0_C
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).1 shapeCasts_S512x128_S512x128⟩] := by
  rfl

theorem C_raw1 :
    (kernelRun0_C
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).2.1 shapeCasts_S512x128_S512x128⟩] := by
  rfl

theorem C_raw2 :
    (kernelRun0_C
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.2.2.1 =
      [⟨Rect.unit (s := S512x128) ![0, 0] S512x128.size inb_S512x128_S512x128_0_0, shapeCast S512x128 (
        run (BitVec.ofNat 32 (i 1).val)
        (k0_pay13 (View.ld (arg6.view.read (Elt F) (harg6.unread x4)) (Rect.unit (s := S256x512) ![0, 0] S256x512.size inb_S256x512_S256x512_0_0)))
        (View.ld (arg21.view.read (Elt F) (harg21.unread xs4)) (Rect.unit (s := S512x128) ![0, 0] S512x128.size inb_S512x128_S512x128_0_0))
        (slabs arg22.view (pieces (enc (arg2.view.read (Elt F) (harg2.unread x0)) (arg3.view.read (Elt F) (harg3.unread x1))
        (View.ld (arg4.view.read (Elt F) (harg4.unread x2)) (Rect.unit (s := S36x128) ![0, 0] S36x128.size inb_S36x128_S36x128_0_0))
        (View.ld (arg5.view.read (Elt F) (harg5.unread x3)) (Rect.unit (s := S1x128) ![0, 0] S1x128.size inb_S1x128_S1x128_0_0))
        (View.ld (arg7.view.read (Elt F) (harg7.unread x5)) (Rect.unit (s := S1x128) ![0, 0] S1x128.size inb_S1x128_S1x128_0_0))
        (View.ld (arg20.view.read (Elt F) (harg20.unread xs3)) (Rect.unit (s := S8x128) ![0, 0] S8x128.size inb_S8x128_S8x128_0_0))) 43))
        ⟨(View.ld (arg17.view.read (Elt F) (harg17.unread xs0)) (Rect.unit (s := S512x128) ![0, 0] S512x128.size inb_S512x128_S512x128_0_0)),
         (View.ld (arg18.view.read (Elt F) (harg18.unread xs1)) (Rect.unit (s := S512x128) ![0, 0] S512x128.size inb_S512x128_S512x128_0_0)),
         (View.ld (arg19.view.read (Elt F) (harg19.unread xs2)) (Rect.unit (s := S512x128) ![0, 0] S512x128.size inb_S512x128_S512x128_0_0))⟩ 43).2.2 shapeCasts_S512x128_S512x128⟩] := by
  rfl

theorem sout_C_0 :
    sout0_C_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).1 := by
  unfold sout0_C_0
  rw [View.read_writes_eq_canon _ _ _ (scover0_C_0
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    C_raw0, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

theorem sout_C_1 :
    sout0_C_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).2.1 := by
  unfold sout0_C_1
  rw [View.read_writes_eq_canon _ _ _ (scover0_C_1
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    C_raw1, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

theorem sout_C_2 :
    sout0_C_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      (point i x0 x1 x2 x3 x4 x5 xs3 xs4 ⟨xs0, xs1, xs2⟩).2.2 := by
  unfold sout0_C_2
  rw [View.read_writes_eq_canon _ _ _ (scover0_C_2
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    C_raw2, View.canon_unit_zero off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, pay13_eq, point]

theorem C_rawOut :
    (kernelRun0_C
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).1 =
      [⟨Rect.unit (s := S512x2) ![0, 0] S512x2.size inb_S512x2_S512x2_0_0, k0_pay1
        (arg19.view.readCov (kernelRun0_C
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4).2.2.2.1
          (Rect.unit (s := S512x128) ![0, 0] S512x128.size inb_S512x128_S512x128_0_0).toLoadRect)
        (View.ld (arg9.view.read (Elt F) (harg9.unread x7)) (Rect.unit (s := S512x1) ![0, 0] S512x1.size inb_S512x1_S512x1_0_0))
        (View.ld (arg11.view.read (Elt F) (harg11.unread x9)) (Rect.unit (s := S128x137) ![0, 0] S128x137.size inb_S128x137_S128x137_0_0))
        (View.ld (arg10.view.read (Elt F) (harg10.unread x8)) (Rect.unit (s := S512x9) ![0, 0] S512x9.size inb_S512x9_S512x9_0_0))
        (View.ld (arg12.view.read (Elt F) (harg12.unread x10)) (Rect.unit (s := S9x137) ![0, 0] S9x137.size inb_S9x137_S9x137_0_0))
        (View.ld (arg13.view.read (Elt F) (harg13.unread x11)) (Rect.unit (s := S1x137) ![0, 0] S1x137.size inb_S1x137_S1x137_0_0))
        (View.ld (arg14.view.read (Elt F) (harg14.unread x12)) (Rect.unit (s := S137x2) ![0, 0] S137x2.size inb_S137x2_S137x2_0_0))
        (View.ld (arg15.view.read (Elt F) (harg15.unread x13)) (Rect.unit (s := S1x2) ![0, 0] S1x2.size inb_S1x2_S1x2_0_0))⟩] := by
  rfl

theorem out_C :
    out0_C_14
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4 =
      k0_pay1 (point i x0 x1 x2 x3 x4 x5 xs3 xs4 ⟨xs0, xs1, xs2⟩).2.2 x7 x9 x8 x10 x11 x12 x13 := by
  unfold out0_C_14
  rw [View.read_writes_eq_canon _ _ _ (cover0_C_14
        c i arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18 arg19
        harg19 arg20 harg20 arg21 harg21 arg22 harg22 hc0 hc1 x0 x1 x2 x3 x4 x5 x6 x7 x8 x9 x10 x11 x12 x13 xs0 xs1
        xs2 xs3 xs4),
    C_rawOut, View.canon_unit_zero off2_zero, C_raw2, View.readCov_unit_zero _ off2_zero, shapeCast_self, run_slabs]
  simp only [Memref.IsWhole.read_unread, View.ld_unit_zero (S := S256x512) off2_zero,
    View.ld_unit_zero (S := S512x128) off2_zero, View.ld_unit_zero (S := S36x128) off2_zero,
    View.ld_unit_zero (S := S1x128) off2_zero, View.ld_unit_zero (S := S8x128) off2_zero,
    View.ld_unit_zero (S := S512x1) off2_zero, View.ld_unit_zero (S := S128x137) off2_zero,
    View.ld_unit_zero (S := S512x9) off2_zero, View.ld_unit_zero (S := S9x137) off2_zero,
    View.ld_unit_zero (S := S1x137) off2_zero, View.ld_unit_zero (S := S137x2) off2_zero,
    View.ld_unit_zero (S := S1x2) off2_zero, pay13_eq, point]

end Cert.KernelIdeal.Tile
-- ==== Proof.Sweep.lean ====
module
public import proofs.«01_k».proof.Proof.CaseA
public import proofs.«01_k».proof.Proof.CaseB
public import proofs.«01_k».proof.Proof.CaseC
public import proofs.«01_k».proof.Proof.Gen.KernelIdeal.Value
@[expose] public section

/-!
# The five grid points of a batch block

The grid walks the four batch blocks, five time blocks each.  `after q n` is the state batch block `q` holds after its
first `n` time blocks; the output block is the final layers applied to the pool of `after q 5`.
-/

set_option maxRecDepth 10000

noncomputable section
namespace Cert.KernelIdeal.Tile
open Cert.KernelIdeal Cert.KernelIdeal.Gen Cert.KernelIdeal.Value Idealize.ShloMosaic Idealize.ShloMosaic.TcCoe
variable {F : FTy → Type} [FloatOps F]
variable (m : (ℓ : Loc nD τ sig) → Buf (Elt F) ℓ) (c : Dev nD)

/-- Grid point `n` of batch block `q`. -/
def pt (q : Fin 4) (n : Fin 5) : Fin cfg0.N := ⟨5 * q.val + n.val, by
  have : cfg0.N = 20 := N_0
  omega⟩

theorem pt_val (q : Fin 4) (n : Fin 5) : (pt q n).val = 5 * q.val + n.val := rfl

/-- The state batch block `q` holds after its first `n` time blocks. -/
def after (q : Fin 4) : ℕ → St F
  | 0 => ⟨k0_pay3, k0_pay4, k0_pay5⟩
  | n + 1 => if h : n < 5 then
      point (grid0.coords (pt q ⟨n, h⟩)) (iblk m c 0 (pt q ⟨n, h⟩)) (iblk m c 1 (pt q ⟨n, h⟩)) (iblk m c 2 (pt q ⟨n, h⟩))
        (iblk m c 3 (pt q ⟨n, h⟩)) (iblk m c 4 (pt q ⟨n, h⟩)) (iblk m c 5 (pt q ⟨n, h⟩))
        (k0_pay6 (grid0.coords (pt q 0))) (k0_pay7 (iblk m c 6 (pt q 0))) (after q n)
    else after q n

/-- What a grid point leaves is its step from something. -/
theorem outs_step (n : ℕ) (hn : n < cfg0.N) : ∃ acc, outsAt0 m c n hn = stAt0 m c n hn acc := by
  cases n with
  | zero => exact ⟨_, outsAt0_zero m c hn⟩
  | succ n => exact ⟨_, outsAt0_succ m c n hn⟩

/-- What a point after the first leaves is its step from what the point before left. -/
theorem outs_next (n : ℕ) (hn : n < cfg0.N) (h : 0 < n) :
    outsAt0 m c n hn = stAt0 m c n hn (outsAt0 m c (n - 1) (by omega)) := by
  obtain ⟨k, rfl⟩ : ∃ k, n = k + 1 := ⟨n - 1, by omega⟩
  exact outsAt0_succ m c k hn

/-- What the first point of a batch block leaves. -/
theorem outs_first (q : Fin 4) :
    (outsAt0 m c (pt q 0).val (pt q 0).isLt).2 =
      ((after m c q 1).1, (after m c q 1).2.1, (after m c q 1).2.2, k0_pay6 (grid0.coords (pt q 0)), k0_pay7 (iblk m c 6 (pt q 0))) := by
  obtain ⟨acc, e⟩ := outs_step m c (pt q 0).val (pt q 0).isLt
  have h0 : (pt q 0).val % 5 = 0 := by rw [pt_val]; simp
  have h1 : ¬(pt q 0).val % 5 = 4 := by rw [h0]; decide
  rw [e, stAt0_A m c (pt q 0) acc h0 h1]
  dsimp only
  rw [sout_A_0, sout_A_1, sout_A_2, sout_A_3, sout_A_4]
  rfl

/-- What a later point that is not the last leaves. -/
theorem outs_mid (q : Fin 4) (n : Fin 5) (h : 0 < n.val) (h4 : n.val < 4)
    (hprev : (outsAt0 m c ((pt q n).val - 1) (by have := (pt q n).isLt; omega)).2 =
      ((after m c q n.val).1, (after m c q n.val).2.1, (after m c q n.val).2.2, k0_pay6 (grid0.coords (pt q 0)), k0_pay7 (iblk m c 6 (pt q 0)))) :
    (outsAt0 m c (pt q n).val (pt q n).isLt).2 =
      ((after m c q (n.val + 1)).1, (after m c q (n.val + 1)).2.1, (after m c q (n.val + 1)).2.2,
        k0_pay6 (grid0.coords (pt q 0)), k0_pay7 (iblk m c 6 (pt q 0))) := by
  have hv : (pt q n).val = 5 * q.val + n.val := rfl
  have h0 : ¬(pt q n).val % 5 = 0 := by omega
  have h1 : ¬(pt q n).val % 5 = 4 := by omega
  have e : outsAt0 m c (pt q n).val (pt q n).isLt =
      stAt0 m c (pt q n).val (pt q n).isLt (outsAt0 m c ((pt q n).val - 1) (by have := (pt q n).isLt; omega)) := by
    exact outs_next m c _ _ (by omega)
  rw [e]
  generalize outsAt0 m c ((pt q n).val - 1) _ = acc at hprev
  rw [stAt0_B m c (pt q n) _ h0 h1]
  dsimp only
  rw [sout_B_0, sout_B_1, sout_B_2, hprev]
  simp only [sout0_B_3, sout0_B_4, hprev, after, dif_pos n.isLt]

/-- The output block the last point of a batch block stores. -/
theorem outs_last (q : Fin 4)
    (hprev : (outsAt0 m c ((pt q 4).val - 1) (by have := (pt q 4).isLt; omega)).2 =
      ((after m c q 4).1, (after m c q 4).2.1, (after m c q 4).2.2, k0_pay6 (grid0.coords (pt q 0)), k0_pay7 (iblk m c 6 (pt q 0)))) :
    (outsAt0 m c (pt q 4).val (pt q 4).isLt).1 =
      k0_pay1 (after m c q 5).2.2 (iblk m c 7 (pt q 4)) (iblk m c 9 (pt q 4)) (iblk m c 8 (pt q 4)) (iblk m c 10 (pt q 4))
        (iblk m c 11 (pt q 4)) (iblk m c 12 (pt q 4)) (iblk m c 13 (pt q 4)) := by
  have hv : (pt q 4).val = 5 * q.val + 4 := rfl
  have h0 : ¬(pt q 4).val % 5 = 0 := by omega
  have h1 : (pt q 4).val % 5 = 4 := by omega
  have e : outsAt0 m c (pt q 4).val (pt q 4).isLt =
      stAt0 m c (pt q 4).val (pt q 4).isLt (outsAt0 m c ((pt q 4).val - 1) (by have := (pt q 4).isLt; omega)) := by
    exact outs_next m c _ _ (by omega)
  rw [e]
  generalize outsAt0 m c ((pt q 4).val - 1) _ = acc at hprev
  rw [stAt0_C m c (pt q 4) _ h0 h1]
  dsimp only
  rw [out_C, hprev]
  rfl

theorem outs_eq (q : Fin 4) : ∀ n (h : n < 4),
    (outsAt0 m c (pt q ⟨n, by omega⟩).val (pt q ⟨n, by omega⟩).isLt).2 =
      ((after m c q (n + 1)).1, (after m c q (n + 1)).2.1, (after m c q (n + 1)).2.2,
        k0_pay6 (grid0.coords (pt q 0)), k0_pay7 (iblk m c 6 (pt q 0)))
  | 0, _ => outs_first m c q
  | n + 1, h => outs_mid m c q ⟨n + 1, by omega⟩ (Nat.succ_pos n) h (outs_eq q n (by omega))

/-- The array the kernel leaves, at an index: its batch block's output block at its place in the block. -/
theorem G14_eq (i : S2048x2.Idx) (q : Fin 4) (hq : q.val = (i 0).val / 512) :
    G14 m c i = k0_pay1 (after m c q 5).2.2 (iblk m c 7 (pt q 4)) (iblk m c 9 (pt q 4)) (iblk m c 8 (pt q 4))
      (iblk m c 10 (pt q 4)) (iblk m c 11 (pt q 4)) (iblk m c 12 (pt q 4)) (iblk m c 13 (pt q 4)) (loc14Of i) := by
  have hi0 : (i 0).val < 2048 := (i 0).isLt
  have hi1 : (i 1).val < 2 := (i 1).isLt
  have hp : pt14Of i = (pt q 4).val := by
    show 5 * (1 * ((i 0).val / 512 - 0) + 1 * ((i 1).val / 2 - 0)) + 4 = 5 * q.val + 4
    omega
  have hlt : pt14Of i < cfg0.N := hp ▸ (pt q 4).isLt
  unfold G14
  rw [dif_pos hlt, ← outs_last m c q (outs_eq m c q 3 (by decide)), ← outsAt0_sweep m c (pt14Of i) hlt]
  have : ∀ (a b : ℕ) (ha : a < cfg0.N) (hb : b < cfg0.N), a = b → outsAt0 m c a ha = outsAt0 m c b hb := by
    intro a b ha hb e; subst e; rfl
  rw [this _ _ hlt (pt q 4).isLt hp]

end Cert.KernelIdeal.Tile
-- ==== Proof.Scatter.lean ====
module
public import proofs.«01_k».proof.Proof.Gen.KernelIdeal.Value
public import Idealize.ShloMosaic.Lib.Pointwise
public import Idealize.ShloMosaic.Lib.ValueIdx
public import Idealize.ShloMosaic.Lib.Routing.OpsSet
@[expose] public section
set_option maxRecDepth 100000
noncomputable section
namespace Cert.KernelIdeal.Tile
open Cert.KernelIdeal Cert.KernelIdeal.Gen Cert.KernelIdeal.Value Idealize.ShloMosaic Idealize.ShloMosaic.TcCoe Idealize.ShloMosaic.Routing

/-- The one index word of a one-word start vector. -/
abbrev start1 (n : BitVec 32) : IVec S1 32 := broadcastInDim S1 ![] bcast_S_S1 (constantI S_ 32 n)

/-- A scatter that writes its update, where exactly one update element lands at the entry. -/
theorem set_one {α : Type} {R C w : Nat} {si u : Shape} (d : ScatterDims (shape2 R C) si u) (x0 : (shape2 R C).Idx → α) (idx : IVec si w) (upd : u.Idx → α)
    (r : Fin R) (c : Fin C) (k : u.Idx)
    (land : ∀ k' : u.Idx, (d.start k' idx 0 + (d.window k' 0 : Int) = (r.val : Int) ∧ d.start k' idx 1 + (d.window k' 1 : Int) = (c.val : Int)) ↔ k' = k) :
    Host.scatter d (fun _ b => b) x0 idx upd (ix2 r c) = upd k :=
  scatter_set_hit d x0 idx upd (ix2 r c) (upd k)
    (fun k' h => congrArg upd ((land k').1 ((resultIdx?_ix2 d k' idx r c).1 h))) k ((resultIdx?_ix2 d k idx r c).2 ((land k).2 rfl))

/-- The same scatter, where none lands. -/
theorem set_none {α : Type} {R C w : Nat} {si u : Shape} (d : ScatterDims (shape2 R C) si u) (x0 : (shape2 R C).Idx → α) (idx : IVec si w) (upd : u.Idx → α)
    (r : Fin R) (c : Fin C)
    (miss : ∀ k' : u.Idx, ¬ (d.start k' idx 0 + (d.window k' 0 : Int) = (r.val : Int) ∧ d.start k' idx 1 + (d.window k' 1 : Int) = (c.val : Int))) :
    Host.scatter d (fun _ b => b) x0 idx upd (ix2 r c) = x0 (ix2 r c) :=
  scatter_set_miss d x0 idx upd (ix2 r c) fun k' h => miss k' ((resultIdx?_ix2 d k' idx r c).1 h)

theorem start_rows (n : BitVec 32) (k : S128x512.Idx) :
    scatter_S256x512_S1_S128x512_01_n_0_0.start k (start1 n) 0 = n.toInt ∧ scatter_S256x512_S1_S128x512_01_n_0_0.start k (start1 n) 1 = 0
    ∧ scatter_S256x512_S1_S128x512_01_n_0_0.window k 0 = (k 0).val ∧ scatter_S256x512_S1_S128x512_01_n_0_0.window k 1 = (k 1).val := by
  refine ⟨rfl, rfl, rfl, rfl⟩
theorem start_cell (n : BitVec 32) (k : S512.Idx) :
    scatter_S256x512_S1_S512_0_0_0_0.start k (start1 n) 0 = n.toInt ∧ scatter_S256x512_S1_S512_0_0_0_0.start k (start1 n) 1 = 0
    ∧ scatter_S256x512_S1_S512_0_0_0_0.window k 0 = 0 ∧ scatter_S256x512_S1_S512_0_0_0_0.window k 1 = (k 0).val := by
  refine ⟨rfl, rfl, rfl, rfl⟩
theorem start_36 (n : BitVec 32) (k : S36x512.Idx) :
    scatter_S256x512_S1_S36x512_01_n_0_0.start k (start1 n) 0 = n.toInt ∧ scatter_S256x512_S1_S36x512_01_n_0_0.start k (start1 n) 1 = 0
    ∧ scatter_S256x512_S1_S36x512_01_n_0_0.window k 0 = (k 0).val ∧ scatter_S256x512_S1_S36x512_01_n_0_0.window k 1 = (k 1).val := by
  refine ⟨rfl, rfl, rfl, rfl⟩

theorem start_enc (n : BitVec 32) (k : S36x36.Idx) :
    scatter_S36x128_S1_S36x36_01_n_1_0.start k (start1 n) 0 = 0 ∧ scatter_S36x128_S1_S36x36_01_n_1_0.start k (start1 n) 1 = n.toInt
    ∧ scatter_S36x128_S1_S36x36_01_n_1_0.window k 0 = (k 0).val ∧ scatter_S36x128_S1_S36x36_01_n_1_0.window k 1 = (k 1).val := by
  refine ⟨rfl, rfl, rfl, rfl⟩
theorem start_bias (idx : IVec S2 32) (k : S36.Idx) :
    scatter_S1x128_S2_S36_0_0_01_0.start k idx 0 = (idx (ix1 0)).toInt ∧ scatter_S1x128_S2_S36_0_0_01_0.start k idx 1 = (idx (ix1 1)).toInt
    ∧ scatter_S1x128_S2_S36_0_0_01_0.window k 0 = 0 ∧ scatter_S1x128_S2_S36_0_0_01_0.window k 1 = (k 0).val := by
  refine ⟨?_, ?_, rfl, rfl⟩
  · unfold ScatterDims.start; rw [dif_pos (by decide)]; congr 2; funext a; match a with | ⟨0, _⟩ => rfl
  · unfold ScatterDims.start; rw [dif_pos (by decide)]; congr 2; funext a; match a with | ⟨0, _⟩ => rfl
theorem start_lane (idx : IVec S2 32) (k : S_.Idx) :
    scatter_S1x128_S2_S__n_01_01_0.start k idx 0 = (idx (ix1 0)).toInt ∧ scatter_S1x128_S2_S__n_01_01_0.start k idx 1 = (idx (ix1 1)).toInt
    ∧ scatter_S1x128_S2_S__n_01_01_0.window k 0 = 0 ∧ scatter_S1x128_S2_S__n_01_01_0.window k 1 = 0 := by
  refine ⟨?_, ?_, rfl, rfl⟩
  · unfold ScatterDims.start; rw [dif_pos (by decide)]; congr 2; funext a; match a with | ⟨0, _⟩ => rfl
  · unfold ScatterDims.start; rw [dif_pos (by decide)]; congr 2; funext a; match a with | ⟨0, _⟩ => rfl

/-- Two indices of a matrix agree when their axes do. -/
theorem ix2_of {R C : Nat} (k : (shape2 R C).Idx) (a : Fin R) (b : Fin C) (h0 : (k 0).val = a.val) (h1 : (k 1).val = b.val) : k = ix2 a b := by
  funext x; match x with
  | ⟨0, _⟩ => exact Fin.ext h0
  | ⟨1, _⟩ => exact Fin.ext h1

theorem rows_hit {α : Type} (x0 : S256x512.Idx → α) (n : BitVec 32) (upd : S128x512.Idx → α) (r : Fin 256) (c : Fin 512) (j : Fin 128) (h : n.toInt + (j.val : Int) = r.val) :
    Host.scatter scatter_S256x512_S1_S128x512_01_n_0_0 (fun _ b => b) x0 (start1 n) upd (ix2 r c) = upd (ix2 j c) := by
  refine set_one _ _ _ _ _ _ _ fun k => ?_
  obtain ⟨h0, h1, h2, h3⟩ := start_rows n k
  rw [h0, h1, h2, h3]
  refine ⟨fun e => ix2_of k j c (by omega) (by omega), fun e => ?_⟩
  subst e
  exact ⟨h, by show 0 + (c.val : Int) = _; omega⟩

theorem rows_miss {α : Type} (x0 : S256x512.Idx → α) (n : BitVec 32) (upd : S128x512.Idx → α) (r : Fin 256) (c : Fin 512) (h : (r.val : Int) < n.toInt) :
    Host.scatter scatter_S256x512_S1_S128x512_01_n_0_0 (fun _ b => b) x0 (start1 n) upd (ix2 r c) = x0 (ix2 r c) := by
  refine set_none _ _ _ _ _ _ fun k => ?_
  obtain ⟨h0, h1, h2, h3⟩ := start_rows n k
  rw [h0, h1, h2, h3]; omega

theorem cell_hit {α : Type} (x0 : S256x512.Idx → α) (n : BitVec 32) (upd : S512.Idx → α) (r : Fin 256) (c : Fin 512) (h : n.toInt = r.val) :
    Host.scatter scatter_S256x512_S1_S512_0_0_0_0 (fun _ b => b) x0 (start1 n) upd (ix2 r c) = upd (ix1 c) := by
  refine set_one _ _ _ _ _ _ _ fun k => ?_
  obtain ⟨h0, h1, h2, h3⟩ := start_cell n k
  rw [h0, h1, h2, h3]
  refine ⟨fun e => ?_, fun e => ?_⟩
  · funext x; match x with | ⟨0, _⟩ => exact Fin.ext (by have := e.2; show (k 0).val = c.val; omega)
  · subst e
    exact ⟨by omega, by show 0 + (c.val : Int) = _; omega⟩

theorem cell_miss {α : Type} (x0 : S256x512.Idx → α) (n : BitVec 32) (upd : S512.Idx → α) (r : Fin 256) (c : Fin 512) (h : n.toInt ≠ r.val) :
    Host.scatter scatter_S256x512_S1_S512_0_0_0_0 (fun _ b => b) x0 (start1 n) upd (ix2 r c) = x0 (ix2 r c) := by
  refine set_none _ _ _ _ _ _ fun k => ?_
  obtain ⟨h0, h1, h2, h3⟩ := start_cell n k
  rw [h0, h1, h2, h3]; omega

theorem top_hit {α : Type} (x0 : S256x512.Idx → α) (upd : S36x512.Idx → α) (r : Fin 256) (c : Fin 512) (j : Fin 36) (h : j.val = r.val) :
    Host.scatter scatter_S256x512_S1_S36x512_01_n_0_0 (fun _ b => b) x0 (start1 0#32) upd (ix2 r c) = upd (ix2 j c) := by
  refine set_one _ _ _ _ _ _ _ fun k => ?_
  obtain ⟨h0, h1, h2, h3⟩ := start_36 0#32 k
  rw [h0, h1, h2, h3]
  have z : (0#32).toInt = 0 := by decide
  refine ⟨fun e => ix2_of k j c (by omega) (by omega), fun e => ?_⟩
  subst e
  exact ⟨by show _ + (j.val : Int) = _; omega, by show 0 + (c.val : Int) = _; omega⟩

theorem top_miss {α : Type} (x0 : S256x512.Idx → α) (upd : S36x512.Idx → α) (r : Fin 256) (c : Fin 512) (h : 36 ≤ r.val) :
    Host.scatter scatter_S256x512_S1_S36x512_01_n_0_0 (fun _ b => b) x0 (start1 0#32) upd (ix2 r c) = x0 (ix2 r c) := by
  refine set_none _ _ _ _ _ _ fun k => ?_
  obtain ⟨h0, h1, h2, h3⟩ := start_36 0#32 k
  have z : (0#32).toInt = 0 := by decide
  have := (k 0).isLt
  have h' : (k 0).val < 36 := this
  rw [h0, h1, h2, h3]; omega

theorem enc_hit {α : Type} (x0 : S36x128.Idx → α) (upd : S36x36.Idx → α) (r : Fin 36) (c : Fin 128) (j : Fin 36) (h : j.val = c.val) :
    Host.scatter scatter_S36x128_S1_S36x36_01_n_1_0 (fun _ b => b) x0 (start1 0#32) upd (ix2 r c) = upd (ix2 r j) := by
  refine set_one _ _ _ _ _ _ _ fun k => ?_
  obtain ⟨h0, h1, h2, h3⟩ := start_enc 0#32 k
  rw [h0, h1, h2, h3]
  have z : (0#32).toInt = 0 := by decide
  refine ⟨fun e => ix2_of k r j (by omega) (by omega), fun e => ?_⟩
  subst e
  exact ⟨by show _ + (r.val : Int) = _; omega, by show _ + (j.val : Int) = _; omega⟩

theorem enc_miss {α : Type} (x0 : S36x128.Idx → α) (upd : S36x36.Idx → α) (r : Fin 36) (c : Fin 128) (h : 36 ≤ c.val) :
    Host.scatter scatter_S36x128_S1_S36x36_01_n_1_0 (fun _ b => b) x0 (start1 0#32) upd (ix2 r c) = x0 (ix2 r c) := by
  refine set_none _ _ _ _ _ _ fun k => ?_
  obtain ⟨h0, h1, h2, h3⟩ := start_enc 0#32 k
  have z : (0#32).toInt = 0 := by decide
  have h' : (k 1).val < 36 := (k 1).isLt
  rw [h0, h1, h2, h3]; omega

theorem bias_hit {α : Type} (x0 : S1x128.Idx → α) (idx : IVec S2 32) (z0 : idx (ix1 0) = 0#32) (z1 : idx (ix1 1) = 0#32) (upd : S36.Idx → α) (c : Fin 128) (j : Fin 36)
    (h : j.val = c.val) : Host.scatter scatter_S1x128_S2_S36_0_0_01_0 (fun _ b => b) x0 idx upd (ix2 0 c) = upd (ix1 j) := by
  refine set_one _ _ _ _ _ _ _ fun k => ?_
  obtain ⟨h0, h1, h2, h3⟩ := start_bias idx k
  have z : (0#32).toInt = 0 := by decide
  rw [h0, h1, h2, h3, z0, z1, z]
  refine ⟨fun e => ?_, fun e => ?_⟩
  · funext x; match x with | ⟨0, _⟩ => exact Fin.ext (by have := e.2; show (k 0).val = j.val; omega)
  · subst e
    exact ⟨by simp, by show 0 + (j.val : Int) = _; omega⟩

theorem bias_miss {α : Type} (x0 : S1x128.Idx → α) (idx : IVec S2 32) (z1 : idx (ix1 1) = 0#32) (upd : S36.Idx → α) (c : Fin 128)
    (h : 36 ≤ c.val) : Host.scatter scatter_S1x128_S2_S36_0_0_01_0 (fun _ b => b) x0 idx upd (ix2 0 c) = x0 (ix2 0 c) := by
  refine set_none _ _ _ _ _ _ fun k => ?_
  obtain ⟨h0, h1, h2, h3⟩ := start_bias idx k
  have z : (0#32).toInt = 0 := by decide
  have h' : (k 0).val < 36 := (k 0).isLt
  rw [h0, h1, h2, h3, z1, z]; omega

theorem lane_hit {α : Type} (x0 : S1x128.Idx → α) (idx : IVec S2 32) (z0 : idx (ix1 0) = 0#32) (z1 : idx (ix1 1) = 36#32) (upd : S_.Idx → α) (c : Fin 128)
    (h : c.val = 36) : Host.scatter scatter_S1x128_S2_S__n_01_01_0 (fun _ b => b) x0 idx upd (ix2 0 c) = upd ix0 := by
  refine set_one _ _ _ _ _ _ _ fun k => ?_
  obtain ⟨h0, h1, h2, h3⟩ := start_lane idx k
  have z : (0#32).toInt = 0 := by decide
  have z' : (36#32).toInt = 36 := by decide
  rw [h0, h1, h2, h3, z0, z1, z, z']
  refine ⟨fun e => ?_, fun e => ⟨by simp, by omega⟩⟩
  funext x; exact x.elim0

theorem lane_miss {α : Type} (x0 : S1x128.Idx → α) (idx : IVec S2 32) (z1 : idx (ix1 1) = 36#32) (upd : S_.Idx → α) (c : Fin 128)
    (h : c.val ≠ 36) : Host.scatter scatter_S1x128_S2_S__n_01_01_0 (fun _ b => b) x0 idx upd (ix2 0 c) = x0 (ix2 0 c) := by
  refine set_none _ _ _ _ _ _ fun k => ?_
  obtain ⟨h0, h1, h2, h3⟩ := start_lane idx k
  have z' : (36#32).toInt = 36 := by decide
  rw [h0, h1, h2, h3, z1, z']; omega
-- ==== Proof.Consts.lean ====
module
public import Idealize.ShloMosaic.Lib.Pointwise
public import Idealize.ShloMosaic.Lib.ValueIdx
public import Idealize.ShloMosaic.Lib.Claim
@[expose] public section
noncomputable section

/-! The float literals of the two programs, as extended reals. -/

namespace Cert.Lit
open Idealize.ShloMosaic

theorem half : Ideal.ofBits .f32 1056964608#32 = ((1 / 2 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem one : Ideal.ofBits .f32 1065353216#32 = ((1 : ℝ) : EReal) := by
  simp [Ideal.ofBits, Ideal.ieee, -EReal.coe_mul]; norm_num
theorem eight : Ideal.ofBits .f32 1090519040#32 = ((8 : ℝ) : EReal) := by
  simp [Ideal.ofBits, Ideal.ieee, -EReal.coe_mul]; norm_num
theorem thirtySix : Ideal.ofBits .f32 0x42100000#32 = ((36 : ℝ) : EReal) := by
  simp [Ideal.ofBits, Ideal.ieee, -EReal.coe_mul]; norm_num
theorem zero : Ideal.ofBits .f32 0#32 = 0 := by
  simp [Ideal.ofBits, Ideal.ieee, -EReal.coe_mul]

/-- The root of one plus the normalisation's small constant, as the programs spell it. -/
def root : ℝ := 8388650 / 8388608
theorem root_pos : 0 < root := by unfold root; norm_num
theorem rootLit : Ideal.ofBits .f32 1065353258#32 = (root : EReal) := by
  simp [Ideal.ofBits, Ideal.ieee, -EReal.coe_mul, root]; norm_num
theorem inv_root : Ideal.div 1 (Ideal.ofBits .f32 1065353258#32) = ((root⁻¹ : ℝ) : EReal) := by
  rw [rootLit]
  unfold Ideal.div
  have h : (root : EReal) ≠ 0 := by exact_mod_cast root_pos.ne'
  rw [if_neg h, one_mul, EReal.coe_inv]
end Cert.Lit
-- ==== Proof.Spec.lean ====
module
public import proofs.«01_k».proof.Proof.Consts
@[expose] public section
set_option maxRecDepth 100000
noncomputable section

/-! What the problem computes, row by row, over the extended reals. -/

namespace Cert.Spec
open Idealize.ShloMosaic

/-- The arrays of the problem, entry by entry. -/
structure Inputs where
  src : Fin 215 → Fin 2048 → Fin 36 → EReal
  stat : Fin 2048 → Fin 9 → EReal
  len : Fin 2048 → BitVec 32
  encW : Fin 36 → Fin 36 → EReal
  encB : Fin 36 → EReal
  w1 : EReal
  b1 : EReal
  gamma : EReal
  beta : EReal
  w2 : EReal
  b2 : EReal
  Wx : Fin 512 → Fin 36 → EReal
  bx : Fin 512 → EReal
  Wh : Fin 512 → Fin 128 → EReal
  bh : Fin 512 → EReal
  W1 : Fin 137 → Fin 137 → EReal
  B1 : Fin 137 → EReal
  W2 : Fin 2 → Fin 137 → EReal
  B2 : Fin 2 → EReal

variable (I : Inputs)

/-- A node's value before the graph layer. -/
def node (t : Fin 215) (b : Fin 2048) (k : Fin 36) : EReal := ((∑ d, I.src t b d * I.encW k d) + I.encB k) * ((8 : ℝ) : EReal)

/-- The graph layer's sum over neighbours: every edge joins two of the first 36 nodes, which are batch row 0's, and each ordered pair is listed twice. -/
def agg (t : Fin 215) (b : Fin 2048) (k : Fin 36) : EReal :=
  node I t b k + if b.val = 0 then ((2 : ℝ) : EReal) * ∑ l, node I t 0 l else 0

/-- The graph layer's two-step perceptron on one number. -/
def mlp1 (x : EReal) : EReal :=
  max (max (Ideal.div (x * I.w1 + I.b1) (Lit.root : EReal) * I.gamma + I.beta) 0 * I.w2 + I.b2) 0

/-- The recurrent layer's input. -/
def gin (t : Fin 215) (b : Fin 2048) (k : Fin 36) : EReal := mlp1 I (agg I t b k)

def sig (x : EReal) : EReal := Ideal.div 1 (1 + Ideal.exp (-x))

/-- The gates before their squashing. -/
def gate (x : Fin 36 → EReal) (h : Fin 128 → EReal) (j : Fin 512) : EReal :=
  (((∑ k, x k * I.Wx j k) + I.bx j) + ∑ k, h k * I.Wh j k) + I.bh j

def cellStep (x : Fin 36 → EReal) (h c : Fin 128 → EReal) (j : Fin 128) : EReal :=
  c j * sig (gate I x h ⟨128 + j.val, by omega⟩) + sig (gate I x h ⟨j.val, by omega⟩) * Ideal.tanh (gate I x h ⟨256 + j.val, by omega⟩)

def hidStep (x : Fin 36 → EReal) (h c : Fin 128 → EReal) (j : Fin 128) : EReal :=
  sig (gate I x h ⟨384 + j.val, by omega⟩) * Ideal.tanh (cellStep I x h c j)

/-- The hidden and the cell state of a batch row after `t` time steps. -/
def state (b : Fin 2048) : ℕ → (Fin 128 → EReal) × (Fin 128 → EReal)
  | 0 => (0, 0)
  | t + 1 => if h : t < 215 then (hidStep I (gin I ⟨t, h⟩ b) (state b t).1 (state b t).2, cellStep I (gin I ⟨t, h⟩ b) (state b t).1 (state b t).2) else state b t

/-- The sum of the hidden states of the first steps that lie within the row's length. -/
def pool (b : Fin 2048) (j : Fin 128) : ℕ → EReal
  | 0 => 0
  | t + 1 => pool b j t + if (BitVec.ofNat 32 t).toInt < (I.len b).toInt then (state I b (t + 1)).1 j else 0

/-- The output layers' input: the mean hidden state beside the row's static features. -/
def feat (b : Fin 2048) (k : Fin 137) : EReal :=
  if h : k.val < 128 then Ideal.div (pool I b ⟨k.val, h⟩ 215) (((I.len b).toInt : ℝ) + 1 : EReal) else I.stat b ⟨k.val - 128, by omega⟩

/-- The problem's output. -/
def out (b : Fin 2048) (j : Fin 2) : EReal :=
  (∑ l, max ((∑ k, feat I b k * I.W1 l k) + I.B1 l) 0 * I.W2 j l) + I.B2 j

/-- The inputs of the node values are finite, and no length is −1. -/
structure Ok : Prop where
  src : ∀ t b d, ∃ r : ℝ, I.src t b d = r
  encW : ∀ k d, ∃ r : ℝ, I.encW k d = r
  encB : ∀ k, ∃ r : ℝ, I.encB k = r
  w1 : ∃ r : ℝ, I.w1 = r
  b1 : ∃ r : ℝ, I.b1 = r
  gamma : ∃ r : ℝ, I.gamma = r
  beta : ∃ r : ℝ, I.beta = r
  b2 : ∃ r : ℝ, I.b2 = r
  len : ∀ b, (I.len b).toInt ≠ -1

end Cert.Spec
-- ==== Proof.Host.lean ====
module
public import proofs.«01_k».proof.Proof.Scatter
public import proofs.«01_k».proof.Proof.Spec
public import Idealize.ShloMosaic.Lib.StableHlo.ReadAt
@[expose] public section
set_option maxRecDepth 100000
set_option maxHeartbeats 2000000
noncomputable section

/-! What the host operations before the kernel leave in the kernel's small operands, entry by entry. -/

namespace Cert.KernelIdeal.Tile
open Cert.KernelIdeal Cert.KernelIdeal.Gen Cert.KernelIdeal.Value Idealize.ShloMosaic Idealize.ShloMosaic.TcCoe
variable (m : (ℓ : Loc nD τ sig) → Buf (Elt Ideal) ℓ) (c : Dev nD)

/-- The kernel program's arguments as the problem's arrays. -/
def inp : Spec.Inputs where
  src t b d := m (c.tc.loc main_arg0) (ix3 t b d)
  stat b k := m (c.tc.loc main_arg1) (ix2 b k)
  len b := m (c.tc.loc main_arg3) (ix1 b)
  encW k d := m (c.tc.loc main_arg4) (ix2 k d)
  encB k := m (c.tc.loc main_arg5) (ix1 k)
  w1 := m (c.tc.loc main_arg6) (ix2 0 0)
  b1 := m (c.tc.loc main_arg7) (ix1 0)
  gamma := m (c.tc.loc main_arg8) (ix1 0)
  beta := m (c.tc.loc main_arg9) (ix1 0)
  w2 := m (c.tc.loc main_arg10) (ix2 0 0)
  b2 := m (c.tc.loc main_arg11) (ix1 0)
  Wx j k := m (c.tc.loc main_arg12) (ix2 j k)
  bx j := m (c.tc.loc main_arg13) (ix1 j)
  Wh j k := m (c.tc.loc main_arg14) (ix2 j k)
  bh j := m (c.tc.loc main_arg15) (ix1 j)
  W1 l k := m (c.tc.loc main_arg16) (ix2 l k)
  B1 l := m (c.tc.loc main_arg17) (ix1 l)
  W2 j l := m (c.tc.loc main_arg18) (ix2 j l)
  B2 j := m (c.tc.loc main_arg19) (ix1 j)

/-- The folded multiplier of a node value. -/
def foldA (I : Spec.Inputs) : EReal := I.w1 * I.gamma * ((Lit.root⁻¹ : ℝ) : EReal)
/-- The folded offset of a node value. -/
def foldB (I : Spec.Inputs) : EReal := I.b1 * I.gamma * ((Lit.root⁻¹ : ℝ) : EReal) + I.beta
/-- The factor of a gate's column: one for the cell candidate, a half for the three sigmoids. -/
def gs (l : Fin 512) : EReal := if 256 ≤ l.val ∧ l.val < 384 then 1 else ((1 / 2 : ℝ) : EReal)

theorem scal_2 : (V m c main_v21 : FVec Ideal S1x6 .f32) (ix2 0 2) = (inp m c).w2 := by
  dsimp only [inp, foldB]
  unfold V
  after_reads_simp
  dsimp only [Matrix.cons_val]
  clean_types
  pointwise
  after_reads_simp
  clean_types
  pointwise
theorem scal_3 : (V m c main_v21 : FVec Ideal S1x6 .f32) (ix2 0 3) = (inp m c).b2 := by
  dsimp only [inp, foldB]
  unfold V
  after_reads_simp
  dsimp only [Matrix.cons_val]
  clean_types
  pointwise
  after_reads_simp
  clean_types
  pointwise
theorem scal_4 : (V m c main_v21 : FVec Ideal S1x6 .f32) (ix2 0 4) = ((36 : ℝ) : EReal) * foldB (inp m c) := by
  dsimp only [inp, foldB]
  unfold V
  after_reads_simp
  dsimp only [Matrix.cons_val]
  clean_types
  pointwise
  after_reads_simp
  clean_types
  pointwise
  rw [Lit.inv_root, Lit.thirtySix]

theorem encW_in (d : Fin 36) (l : Fin 128) (j : Fin 36) (h : j.val = l.val) :
    (V m c main_v28 : FVec Ideal S36x128 .f32) (ix2 d l) = (inp m c).encW j d * (((8 : ℝ) : EReal) * foldA (inp m c)) := by
  dsimp only [inp, foldA, foldB]
  entry_read
  refine (enc_hit _ _ d l j h).trans ?_
  pointwise
  rw [Lit.inv_root, Lit.eight]
theorem encW_out (d : Fin 36) (l : Fin 128) (h : 36 ≤ l.val) : (V m c main_v28 : FVec Ideal S36x128 .f32) (ix2 d l) = (0 : EReal) := by
  entry_read
  refine (enc_miss _ _ d l h).trans ?_
  pointwise
theorem encB_in (l : Fin 128) (j : Fin 36) (h : j.val = l.val) :
    (V m c main_v38 : FVec Ideal S1x128 .f32) (ix2 0 l) = (inp m c).encB j * (((8 : ℝ) : EReal) * foldA (inp m c)) + foldB (inp m c) := by
  dsimp only [inp, foldA, foldB]
  entry_read
  refine (bias_hit _ _ ?_ ?_ _ l j h).trans ?_
  · pointwise
  · pointwise
  · pointwise
    rw [Lit.inv_root, Lit.eight]
theorem encB_out (l : Fin 128) (h : 36 ≤ l.val) : (V m c main_v38 : FVec Ideal S1x128 .f32) (ix2 0 l) = (0 : EReal) := by
  entry_read
  refine (bias_miss _ _ ?_ _ l h).trans ?_
  · pointwise
  · pointwise
theorem adj_in (l : Fin 128) (h : l.val = 36) :
    (V m c main_v46 : FVec Ideal S1x128 .f32) (ix2 0 l) = (1 : EReal) - max ((inp m c).b2) 0 := by
  dsimp only [inp, foldA, foldB]
  entry_read
  refine (lane_hit _ _ ?_ ?_ _ l h).trans ?_
  · pointwise
  · pointwise
  · pointwise
theorem adj_out (l : Fin 128) (h : l.val ≠ 36) : (V m c main_v46 : FVec Ideal S1x128 .f32) (ix2 0 l) = (0 : EReal) := by
  entry_read
  refine (lane_miss _ _ ?_ _ l h).trans ?_
  · pointwise
  · pointwise

theorem scale_at (r : Fin 256) (l : Fin 512) : (V m c main_v63 : FVec Ideal S256x512 .f32) (ix2 r l) = gs l := by
  unfold V
  after_reads_simp
  dsimp only [Matrix.cons_val]
  clean_types
  pointwise
  after_reads_simp
  clean_types
  pointwise
  rw [Lit.half]
  unfold gs
  split_ifs <;> first | rfl | omega

/-- The gates' matrix before the columns are scaled. -/
def rawW : FVec Ideal S256x512 .f32 :=
  Host.scatter scatter_S256x512_S1_S128x512_01_n_0_0 (fun _ b => b)
    (Host.scatter scatter_S256x512_S1_S512_0_0_0_0 (fun _ b => b)
      (Host.scatter scatter_S256x512_S1_S36x512_01_n_0_0 (fun _ b => b)
        (broadcastInDim S256x512 ![] bcast_S_S256x512 (constant S_ FTy.f32 0#32)) (start1 0#32)
        (transpose S36x512 [1, 0] (m (c.tc.loc main_arg12) : FVec Ideal S512x36 .f32) transposes_S512x36_S36x512_1_0))
      (start1 36#32) (addf (m (c.tc.loc main_arg13) : FVec Ideal S512 .f32) (m (c.tc.loc main_arg15) : FVec Ideal S512 .f32)))
    (start1 128#32) (transpose S128x512 [1, 0] (m (c.tc.loc main_arg14) : FVec Ideal S512x128 .f32) transposes_S512x128_S128x512_1_0)

theorem raw_x (r : Fin 256) (l : Fin 512) (j : Fin 36) (h : j.val = r.val) : rawW m c (ix2 r l) = (inp m c).Wx l j := by
  dsimp only [inp]
  unfold rawW
  rw [rows_miss _ _ _ _ _ (by rw [show (128#32).toInt = 128 by decide]; omega), cell_miss _ _ _ _ _ (by rw [show (36#32).toInt = 36 by decide]; omega),
    top_hit _ _ _ _ j h]
  pointwise
theorem raw_b (r : Fin 256) (l : Fin 512) (h : r.val = 36) :
    rawW m c (ix2 r l) = (inp m c).bx l + (inp m c).bh l := by
  dsimp only [inp]
  unfold rawW
  rw [rows_miss _ _ _ _ _ (by rw [show (128#32).toInt = 128 by decide]; omega), cell_hit _ _ _ _ _ (by rw [show (36#32).toInt = 36 by decide]; omega)]
  pointwise
theorem raw_0 (r : Fin 256) (l : Fin 512) (h : 36 < r.val) (h' : r.val < 128) : rawW m c (ix2 r l) = 0 := by
  unfold rawW
  rw [rows_miss _ _ _ _ _ (by rw [show (128#32).toInt = 128 by decide]; omega), cell_miss _ _ _ _ _ (by rw [show (36#32).toInt = 36 by decide]; omega),
    top_miss _ _ _ _ (by omega)]
  pointwise
theorem raw_h (r : Fin 256) (l : Fin 512) (j : Fin 128) (h : 128 + j.val = r.val) : rawW m c (ix2 r l) = (inp m c).Wh l j := by
  dsimp only [inp]
  unfold rawW
  rw [rows_hit _ _ _ _ _ j (by rw [show (128#32).toInt = 128 by decide]; omega)]
  pointwise

theorem gateW_eq : (V m c main_v69 : FVec Ideal S256x512 .f32)
    = Host.scatter scatter_S256x512_S1_S128x512_01_n_0_0 (fun _ b => b) (mulf (rawW m c) (V m c main_v63 : FVec Ideal S256x512 .f32)) (start1 128#32)
        (mulf (extractStridedSlice S128x512 ![128, 0] (mulf (rawW m c) (V m c main_v63 : FVec Ideal S256x512 .f32)) slices_S256x512_S128x512_128_0)
          (broadcastInDim S128x512 ![] bcast_S_S128x512 (constant S_ FTy.f32 1056964608#32))) := by
  unfold V rawW
  after_reads_simp

theorem slice_at (X : FVec Ideal S256x512 .f32) (j : Fin 128) (l : Fin 512) (r : Fin 256) (h : 128 + j.val = r.val) :
    extractStridedSlice S128x512 ![128, 0] X slices_S256x512_S128x512_128_0 (ix2 j l) = X (ix2 r l) := by
  have e : r = ⟨128 + j.val, by omega⟩ := Fin.ext h.symm
  rw [e]
  pointwise

theorem gateW_top (r : Fin 256) (l : Fin 512) (h : r.val < 128) : (V m c main_v69 : FVec Ideal S256x512 .f32) (ix2 r l) = rawW m c (ix2 r l) * gs l := by
  rw [gateW_eq, rows_miss _ _ _ _ _ (by rw [show (128#32).toInt = 128 by decide]; omega)]
  show rawW m c (ix2 r l) * (V m c main_v63 : FVec Ideal S256x512 .f32) (ix2 r l) = _
  rw [scale_at]
theorem gateW_low (r : Fin 256) (l : Fin 512) (j : Fin 128) (h : 128 + j.val = r.val) :
    (V m c main_v69 : FVec Ideal S256x512 .f32) (ix2 r l) = (inp m c).Wh l j * gs l * ((1 / 2 : ℝ) : EReal) := by
  rw [gateW_eq, rows_hit _ _ _ _ _ j (by rw [show (128#32).toInt = 128 by decide]; omega)]
  show extractStridedSlice S128x512 ![128, 0] (mulf (rawW m c) (V m c main_v63 : FVec Ideal S256x512 .f32)) slices_S256x512_S128x512_128_0 (ix2 j l)
    * Ideal.ofBits .f32 1056964608#32 = _
  rw [slice_at _ j l r h, Lit.half]
  show rawW m c (ix2 r l) * (V m c main_v63 : FVec Ideal S256x512 .f32) (ix2 r l) * _ = _
  rw [scale_at, raw_h m c r l j h]

theorem lenf_at (r : Fin 2048) : (V m c main_v71 : FVec Ideal S2048x1 .f32) (ix2 r 0) = ((((inp m c).len r).toInt : ℝ) : EReal) := by
  dsimp only [inp, foldA, foldB]
  entry_read
  pointwise
  rfl
theorem inv_at (r : Fin 2048) : (V m c main_v75 : FVec Ideal S2048x1 .f32) (ix2 r 0)
    = Ideal.div ((1 / 2 : ℝ) : EReal) (((((inp m c).len r).toInt : ℝ) : EReal) + 1) := by
  dsimp only [inp, foldA, foldB]
  entry_read
  pointwise
  rw [Lit.half]
  rfl
theorem w1h_at (k : Fin 128) (l : Fin 137) : (V m c main_v77 : FVec Ideal S128x137 .f32) (ix2 k l) = (inp m c).W1 l ⟨k.val, by omega⟩ := by
  dsimp only [inp, foldA, foldB]
  entry_read
  pointwise
theorem w1s_at (k : Fin 9) (l : Fin 137) : (V m c main_v79 : FVec Ideal S9x137 .f32) (ix2 k l) = (inp m c).W1 l ⟨128 + k.val, by omega⟩ := by
  dsimp only [inp, foldA, foldB]
  entry_read
  pointwise
theorem b1_at (l : Fin 137) : (V m c main_v80 : FVec Ideal S1x137 .f32) (ix2 0 l) = (inp m c).B1 l := by
  dsimp only [inp, foldA, foldB]
  entry_read
  pointwise
theorem w2_at (k : Fin 137) (l : Fin 2) : (V m c main_v81 : FVec Ideal S137x2 .f32) (ix2 k l) = (inp m c).W2 l k := by
  dsimp only [inp, foldA, foldB]
  entry_read
  pointwise
theorem b2_at (l : Fin 2) : (V m c main_v82 : FVec Ideal S1x2 .f32) (ix2 0 l) = (inp m c).B2 l := by
  dsimp only [inp, foldA, foldB]
  entry_read
  pointwise
end Cert.KernelIdeal.Tile
-- ==== Proof.Payload.lean ====
module
public import proofs.«01_k».proof.Proof.Tile
public import proofs.«01_k».proof.Proof.Consts
@[expose] public section

set_option maxRecDepth 10000
noncomputable section

/-! The kernel's tile expressions, read at an entry over the extended reals. -/

namespace Cert.KernelIdeal.Tile
open Cert.KernelIdeal Cert.KernelIdeal.Gen Idealize.ShloMosaic

theorem pay104_at (W : FVec Ideal S256x512 .f32) (h : Vec Ideal S512x128 .f32) (g : Vec Ideal S1x512x128 .f32) (r j : Fin 512) :
    k0_pay104 W h g (ix2 r j) = (∑ x : Fin 128, (g (ix3 0 r x) : EReal) * W (ix2 ⟨x.val, by omega⟩ j))
      + ∑ x : Fin 128, (h (ix2 r x) : EReal) * W (ix2 ⟨128 + x.val, by omega⟩ j) := by
  unfold k0_pay104
  pointwise
theorem pay108_at (c : Vec Ideal S512x128 .f32) (u v : FVec Ideal S512x256 .f32) (w : FVec Ideal S512x128 .f32) (r : Fin 512) (j : Fin 128) :
    k0_pay108 c u v w (ix2 r j) = ((1 / 2 : ℝ) : EReal) * ((c (ix2 r j) : EReal) * (Ideal.tanh (u (ix2 r ⟨128 + j.val, by omega⟩)) + 1)
      + Ideal.tanh (v (ix2 r ⟨j.val, by omega⟩)) * w (ix2 r j)) := by
  unfold k0_pay108
  pointwise
  rw [Lit.half]
theorem pay109_at (c : Vec Ideal S512x128 .f32) (u v : FVec Ideal S512x256 .f32) (w : FVec Ideal S512x128 .f32) (r : Fin 512) (j : Fin 128) :
    k0_pay109 c u v w (ix2 r j) = ((Ideal.tanh (v (ix2 r ⟨128 + j.val, by omega⟩)) + 1 : EReal)) * Ideal.tanh (k0_pay108 c u v w (ix2 r j)) := by
  unfold k0_pay109
  pointwise
theorem pay110_at (l c p : Vec Ideal S512x128 .f32) (t : Ideal .f32) (u v : FVec Ideal S512x256 .f32) (w : FVec Ideal S512x128 .f32) (r : Fin 512) (j : Fin 128) :
    k0_pay110 l c p t u v w (ix2 r j) = (p (ix2 r j) : EReal) + if (t : EReal) < l (ix2 r j) then k0_pay109 c u v w (ix2 r j) else (0 : EReal) := by
  unfold k0_pay110
  pointwise
theorem pay105_at (W : FVec Ideal S256x512 .f32) (h : Vec Ideal S512x128 .f32) (g : Vec Ideal S1x512x128 .f32) (r : Fin 512) (j : Fin 256) :
    k0_pay105 W h g (ix2 r j) = k0_pay104 W h g (ix2 r ⟨j.val, by omega⟩) := by
  unfold k0_pay105
  pointwise
theorem pay106_at (W : FVec Ideal S256x512 .f32) (h : Vec Ideal S512x128 .f32) (g : Vec Ideal S1x512x128 .f32) (r : Fin 512) (j : Fin 256) :
    k0_pay106 W h g (ix2 r j) = k0_pay104 W h g (ix2 r ⟨256 + j.val, by omega⟩) := by
  unfold k0_pay106
  pointwise
theorem pay107_at (W : FVec Ideal S256x512 .f32) (h : Vec Ideal S512x128 .f32) (g : Vec Ideal S1x512x128 .f32) (r : Fin 512) (j : Fin 128) :
    k0_pay107 W h g (ix2 r j) = (Ideal.tanh (k0_pay104 W h g (ix2 r ⟨j.val, by omega⟩)) + 1 : EReal) := by
  unfold k0_pay107 k0_pay105
  pointwise

/-- The encoder's linear part. -/
def lin (w : FVec Ideal S36x128 .f32) (e : FVec Ideal S1x128 .f32) (g : Vec Ideal S1x512x36 .f32) (r : Fin 512) (j : Fin 128) : EReal :=
  (∑ x : Fin 36, (g (ix3 0 r x) : EReal) * w (ix2 x j)) + e (ix2 0 j)

theorem pay21_at (a b c : Ideal .f32) (w : FVec Ideal S36x128 .f32) (e o : FVec Ideal S1x128 .f32) (m8 : Vec Ideal S8x128 .f32) (g : Vec Ideal S1x512x36 .f32)
    (r : Fin 512) (j : Fin 128) :
    k0_pay21 a b c w e o m8 g (ix3 0 r j) = max (max (if h : r.val < 8 then lin w e g r j + (m8 (ix2 ⟨r.val, h⟩ j) : EReal) * (((2 : ℝ) : EReal) * ((∑ x, lin w e g 0 x) - c))
      else lin w e g r j) 0 * a + b : EReal) 0 + o (ix2 0 j) := by
  have e8 : ∀ h : ¬ r.val < 8, (⟨8 + (r.val - 8), by omega⟩ : Fin 512) = r := fun h => Fin.ext (by show 8 + (r.val - 8) = r.val; omega)
  unfold k0_pay21
  pointwise
  rw [Lit.two]
  unfold lin
  by_cases h : r.val < 8
  · rw [dif_pos h, dif_pos h]
  · rw [dif_neg h, dif_neg h]
    simp only [e8 h]
theorem pay1_at (a : Vec Ideal S512x128 .f32) (b : Vec Ideal S512x1 .f32) (c : Vec Ideal S128x137 .f32) (d : Vec Ideal S512x9 .f32) (e : Vec Ideal S9x137 .f32)
    (f : Vec Ideal S1x137 .f32) (g : Vec Ideal S137x2 .f32) (h : Vec Ideal S1x2 .f32) (r : Fin 512) (j : Fin 2) :
    k0_pay1 a b c d e f g h (ix2 r j) = (∑ x : Fin 137, max ((∑ y : Fin 128, (a (ix2 r y) : EReal) * b (ix2 r 0) * c (ix2 y x))
      + (∑ y : Fin 9, (d (ix2 r y) : EReal) * e (ix2 y x)) + f (ix2 0 x)) 0 * (g (ix2 x j) : EReal)) + h (ix2 0 j) := by
  unfold k0_pay1
  pointwise
theorem mask_word : ∀ (a : Fin 4) (r : Fin 8) (j : Fin 128),
    (IntOp.andi (IntOp.andi (IntOp.cmpi .eq (BitVec.ofNat 32 r.val) 0#32) (IntOp.cmpi .slt (BitVec.ofNat 32 j.val) 36#32))
      (Scalar.cmpi .eq (BitVec.ofNat 32 a.val) 0#32) = 1) ↔ (a.val = 0 ∧ r.val = 0 ∧ j.val < 36) := by
  decide +kernel
theorem pay6_at (i : grid0.Coords) (r : Fin 8) (j : Fin 128) :
    k0_pay6 (F := Ideal) i (ix2 r j) = (if (i 0).val = 0 ∧ r.val = 0 ∧ j.val < 36 then 1 else 0 : EReal) := by
  have h0 : (i 0).val < 4 := (i 0).isLt
  unfold k0_pay6
  pointwise
  unfold Scalar.select
  exact if_congr (mask_word ⟨(i 0).val, h0⟩ r j) rfl rfl
theorem pay7_at (x : Vec Ideal S512x1 .f32) (r : Fin 512) (j : Fin 128) : k0_pay7 x (ix2 r j) = x (ix2 r 0) := by
  unfold k0_pay7
  pointwise
theorem pay3_at (r : Fin 512) (j : Fin 128) : k0_pay3 (F := Ideal) (ix2 r j) = (0 : EReal) := by
  unfold k0_pay3 k0_pay2
  pointwise
theorem pay4_at (r : Fin 512) (j : Fin 128) : k0_pay4 (F := Ideal) (ix2 r j) = (0 : EReal) := by
  unfold k0_pay4 k0_pay2
  pointwise
theorem pay5_at (r : Fin 512) (j : Fin 128) : k0_pay5 (F := Ideal) (ix2 r j) = (0 : EReal) := by
  unfold k0_pay5 k0_pay2
  pointwise
theorem srcSlab_at (x : Vec Ideal S43x512x36 .f32) (n : ℕ) (h : n < 43) (r : Fin 512) (k : Fin 36) : srcSlab x n (ix3 0 r k) = x (ix3 ⟨n, h⟩ r k) := by
  unfold srcSlab
  rw [dif_pos h]
  show x ((Rect.unit (s := S43x512x36) ![n, 0, 0] S1x512x36.size (inb_src n h)).idx (ix3 0 r k)) = _
  congr 1
  funext a
  apply Fin.ext
  match a with
  | ⟨0, _⟩ => show n + 1 * 0 = n; omega
  | ⟨1, _⟩ => show 0 + 1 * r.val = r.val; omega
  | ⟨2, _⟩ => show 0 + 1 * k.val = k.val; omega
theorem ix2_ext {R C : Nat} (k : (⟨2, ![R, C]⟩ : Shape).Idx) (a : Fin R) (b : Fin C) (h0 : (k 0).val = a.val) (h1 : (k 1).val = b.val) : k = ix2 a b := by
  funext x; match x with
  | ⟨0, _⟩ => exact Fin.ext h0
  | ⟨1, _⟩ => exact Fin.ext h1
theorem enc_at (x : Vec Ideal S43x512x36 .f32) (scal : Vec Ideal S1x6 .f32) (w : Vec Ideal S36x128 .f32) (b : Vec Ideal S1x128 .f32)
    (adj : Vec Ideal S1x128 .f32) (m8 : Vec Ideal S8x128 .f32) (n : ℕ) : enc x scal w b adj m8 n
      = k0_pay21 (scal (ix2 0 2)) (scal (ix2 0 3)) (scal (ix2 0 4)) w b adj m8 (srcSlab x n) := by
  unfold enc
  congr 1
  · exact congrArg scal (ix2_ext _ _ _ rfl rfl)
  · exact congrArg scal (ix2_ext _ _ _ rfl rfl)
  · exact congrArg scal (ix2_ext _ _ _ rfl rfl)
  · exact shapeCast_self _ _
  · exact shapeCast_self _ _
  · exact shapeCast_self _ _
end Cert.KernelIdeal.Tile
-- ==== Proof.Blocks.lean ====
module
public import proofs.«01_k».proof.Proof.Sweep
public import proofs.«01_k».proof.Proof.Host
public import proofs.«01_k».proof.Proof.Payload
@[expose] public section

set_option maxRecDepth 10000
noncomputable section

/-! The blocks that a grid point is given, read at an entry. -/

namespace Cert.KernelIdeal.Tile
open Cert.KernelIdeal Cert.KernelIdeal.Gen Cert.KernelIdeal.Value Idealize.ShloMosaic Idealize.ShloMosaic.TcCoe
variable (m : (ℓ : Loc nD τ sig) → Buf (Elt Ideal) ℓ) (c : Dev nD)

theorem coords_pt : ∀ (q : Fin 4) (n : Fin 5), ((grid0.coords (pt q n)) 0).val = q.val ∧ ((grid0.coords (pt q n)) 1).val = n.val := by decide +kernel
theorem idx0 : ∀ (q : Fin 4) (n : Fin 5), win0_0.index (pt q n) 0 = n.val ∧ win0_0.index (pt q n) 1 = q.val ∧ win0_0.index (pt q n) 2 = 0 := by decide +kernel
theorem idx6 : ∀ (q : Fin 4) (n : Fin 5), win0_6.index (pt q n) 0 = q.val ∧ win0_6.index (pt q n) 1 = 0 := by decide +kernel
theorem idx7 : ∀ (q : Fin 4) (n : Fin 5), win0_7.index (pt q n) 0 = q.val ∧ win0_7.index (pt q n) 1 = 0 := by decide +kernel
theorem idx8 : ∀ (q : Fin 4) (n : Fin 5), win0_8.index (pt q n) 0 = q.val ∧ win0_8.index (pt q n) 1 = 0 := by decide +kernel
theorem idx1 : ∀ (q : Fin 4) (n : Fin 5), win0_1.index (pt q n) 0 = 0 ∧ win0_1.index (pt q n) 1 = 0 := by decide +kernel

theorem blk0 (q : Fin 4) (n : Fin 5) (k : Fin 43) (r : Fin 512) (d : Fin 36) :
    (iblk m c 0 (pt q n) : Vec Ideal S43x512x36 .f32) (ix3 k r d) = (inp m c).src ⟨43 * n.val + k.val, by omega⟩ ⟨512 * q.val + r.val, by omega⟩ d := by
  obtain ⟨h0, h1, h2⟩ := idx0 q n
  unfold iblk
  rw [View.read_apply]
  show (V m c main_arg0 : FVec Ideal S215x2048x36 .f32) _ = _
  rw [V_main_arg0]
  dsimp only [inp]
  congr 1
  funext a
  apply Fin.ext
  match a with
  | ⟨0, _⟩ => show win0_0.index (pt q n) 0 * 43 + 1 * k.val = 43 * n.val + k.val; rw [h0]; omega
  | ⟨1, _⟩ => show win0_0.index (pt q n) 1 * 512 + 1 * r.val = 512 * q.val + r.val; rw [h1]; omega
  | ⟨2, _⟩ => show win0_0.index (pt q n) 2 * 36 + 1 * d.val = d.val; rw [h2]; omega

theorem blk8 (q : Fin 4) (n : Fin 5) (r : Fin 512) (d : Fin 9) :
    (iblk m c 8 (pt q n) : Vec Ideal S512x9 .f32) (ix2 r d) = (inp m c).stat ⟨512 * q.val + r.val, by omega⟩ d := by
  obtain ⟨h0, h1⟩ := idx8 q n
  unfold iblk
  rw [View.read_apply]
  show (V m c main_arg1 : FVec Ideal S2048x9 .f32) _ = _
  rw [V_main_arg1]
  dsimp only [inp]
  congr 1
  funext a
  apply Fin.ext
  match a with
  | ⟨0, _⟩ => show win0_8.index (pt q n) 0 * 512 + 1 * r.val = 512 * q.val + r.val; rw [h0]; omega
  | ⟨1, _⟩ => show win0_8.index (pt q n) 1 * 9 + 1 * d.val = d.val; rw [h1]; omega

theorem blk6 (q : Fin 4) (n : Fin 5) (r : Fin 512) :
    (iblk m c 6 (pt q n) : Vec Ideal S512x1 .f32) (ix2 r 0) = ((((inp m c).len ⟨512 * q.val + r.val, by omega⟩).toInt : ℝ) : EReal) := by
  obtain ⟨h0, h1⟩ := idx6 q n
  rw [← lenf_at]
  unfold iblk
  rw [View.read_apply]
  show (V m c main_v71 : FVec Ideal S2048x1 .f32) _ = _
  congr 1
  funext a
  apply Fin.ext
  match a with
  | ⟨0, _⟩ => show win0_6.index (pt q n) 0 * 512 + 1 * r.val = 512 * q.val + r.val; rw [h0]; omega
  | ⟨1, _⟩ => show win0_6.index (pt q n) 1 * 1 + 1 * 0 = 0; rw [h1]

theorem blk7 (q : Fin 4) (n : Fin 5) (r : Fin 512) :
    (iblk m c 7 (pt q n) : Vec Ideal S512x1 .f32) (ix2 r 0)
      = Ideal.div ((1 / 2 : ℝ) : EReal) (((((inp m c).len ⟨512 * q.val + r.val, by omega⟩).toInt : ℝ) : EReal) + 1) := by
  obtain ⟨h0, h1⟩ := idx7 q n
  rw [← inv_at]
  unfold iblk
  rw [View.read_apply]
  show (V m c main_v75 : FVec Ideal S2048x1 .f32) _ = _
  congr 1
  funext a
  apply Fin.ext
  match a with
  | ⟨0, _⟩ => show win0_7.index (pt q n) 0 * 512 + 1 * r.val = 512 * q.val + r.val; rw [h0]; omega
  | ⟨1, _⟩ => show win0_7.index (pt q n) 1 * 1 + 1 * 0 = 0; rw [h1]

theorem blk1 (q : Fin 4) (n : Fin 5) (x : Fin 6) : (iblk m c 1 (pt q n) : Vec Ideal S1x6 .f32) (ix2 0 x) = (V m c main_v21 : FVec Ideal S1x6 .f32) (ix2 0 x) := by
  obtain ⟨h0, h1⟩ := idx1 q n
  unfold iblk
  rw [View.read_apply]
  show (V m c main_v21 : FVec Ideal S1x6 .f32) _ = _
  congr 1
  funext a
  apply Fin.ext
  match a with
  | ⟨0, _⟩ => show win0_1.index (pt q n) 0 * 1 + 1 * 0 = 0; rw [h0]
  | ⟨1, _⟩ => show win0_1.index (pt q n) 1 * 6 + 1 * x.val = x.val; rw [h1]; omega

/-- A coordinate of a block that starts at the array's origin. -/
theorem at_origin (i s r : ℕ) (h : i = 0) : i * s + 1 * r = r := by rw [h]; omega

theorem idx2 : ∀ (q : Fin 4) (n : Fin 5), win0_2.index (pt q n) 0 = 0 ∧ win0_2.index (pt q n) 1 = 0 := by decide +kernel
theorem blk2 (q : Fin 4) (n : Fin 5) (k : Fin 36) (l : Fin 128) :
    (iblk m c 2 (pt q n) : Vec Ideal S36x128 .f32) (ix2 k l) = (V m c main_v28 : FVec Ideal S36x128 .f32) (ix2 k l) :=
  congrArg (V m c main_v28 : FVec Ideal S36x128 .f32) (ix2_ext _ k l (at_origin _ 36 _ (idx2 q n).1) (at_origin _ 128 _ (idx2 q n).2))

theorem idx3 : ∀ (q : Fin 4) (n : Fin 5), win0_3.index (pt q n) 0 = 0 ∧ win0_3.index (pt q n) 1 = 0 := by decide +kernel
theorem blk3 (q : Fin 4) (n : Fin 5) (k : Fin 1) (l : Fin 128) :
    (iblk m c 3 (pt q n) : Vec Ideal S1x128 .f32) (ix2 k l) = (V m c main_v38 : FVec Ideal S1x128 .f32) (ix2 k l) :=
  congrArg (V m c main_v38 : FVec Ideal S1x128 .f32) (ix2_ext _ k l (at_origin _ 1 _ (idx3 q n).1) (at_origin _ 128 _ (idx3 q n).2))

theorem idx4 : ∀ (q : Fin 4) (n : Fin 5), win0_4.index (pt q n) 0 = 0 ∧ win0_4.index (pt q n) 1 = 0 := by decide +kernel
theorem blk4 (q : Fin 4) (n : Fin 5) (k : Fin 256) (l : Fin 512) :
    (iblk m c 4 (pt q n) : Vec Ideal S256x512 .f32) (ix2 k l) = (V m c main_v69 : FVec Ideal S256x512 .f32) (ix2 k l) :=
  congrArg (V m c main_v69 : FVec Ideal S256x512 .f32) (ix2_ext _ k l (at_origin _ 256 _ (idx4 q n).1) (at_origin _ 512 _ (idx4 q n).2))

theorem idx5 : ∀ (q : Fin 4) (n : Fin 5), win0_5.index (pt q n) 0 = 0 ∧ win0_5.index (pt q n) 1 = 0 := by decide +kernel
theorem blk5 (q : Fin 4) (n : Fin 5) (k : Fin 1) (l : Fin 128) :
    (iblk m c 5 (pt q n) : Vec Ideal S1x128 .f32) (ix2 k l) = (V m c main_v46 : FVec Ideal S1x128 .f32) (ix2 k l) :=
  congrArg (V m c main_v46 : FVec Ideal S1x128 .f32) (ix2_ext _ k l (at_origin _ 1 _ (idx5 q n).1) (at_origin _ 128 _ (idx5 q n).2))

theorem idx9 : ∀ (q : Fin 4) (n : Fin 5), win0_9.index (pt q n) 0 = 0 ∧ win0_9.index (pt q n) 1 = 0 := by decide +kernel
theorem blk9 (q : Fin 4) (n : Fin 5) (k : Fin 128) (l : Fin 137) :
    (iblk m c 9 (pt q n) : Vec Ideal S128x137 .f32) (ix2 k l) = (V m c main_v77 : FVec Ideal S128x137 .f32) (ix2 k l) :=
  congrArg (V m c main_v77 : FVec Ideal S128x137 .f32) (ix2_ext _ k l (at_origin _ 128 _ (idx9 q n).1) (at_origin _ 137 _ (idx9 q n).2))

theorem idx10 : ∀ (q : Fin 4) (n : Fin 5), win0_10.index (pt q n) 0 = 0 ∧ win0_10.index (pt q n) 1 = 0 := by decide +kernel
theorem blk10 (q : Fin 4) (n : Fin 5) (k : Fin 9) (l : Fin 137) :
    (iblk m c 10 (pt q n) : Vec Ideal S9x137 .f32) (ix2 k l) = (V m c main_v79 : FVec Ideal S9x137 .f32) (ix2 k l) :=
  congrArg (V m c main_v79 : FVec Ideal S9x137 .f32) (ix2_ext _ k l (at_origin _ 9 _ (idx10 q n).1) (at_origin _ 137 _ (idx10 q n).2))

theorem idx11 : ∀ (q : Fin 4) (n : Fin 5), win0_11.index (pt q n) 0 = 0 ∧ win0_11.index (pt q n) 1 = 0 := by decide +kernel
theorem blk11 (q : Fin 4) (n : Fin 5) (k : Fin 1) (l : Fin 137) :
    (iblk m c 11 (pt q n) : Vec Ideal S1x137 .f32) (ix2 k l) = (V m c main_v80 : FVec Ideal S1x137 .f32) (ix2 k l) :=
  congrArg (V m c main_v80 : FVec Ideal S1x137 .f32) (ix2_ext _ k l (at_origin _ 1 _ (idx11 q n).1) (at_origin _ 137 _ (idx11 q n).2))

theorem idx12 : ∀ (q : Fin 4) (n : Fin 5), win0_12.index (pt q n) 0 = 0 ∧ win0_12.index (pt q n) 1 = 0 := by decide +kernel
theorem blk12 (q : Fin 4) (n : Fin 5) (k : Fin 137) (l : Fin 2) :
    (iblk m c 12 (pt q n) : Vec Ideal S137x2 .f32) (ix2 k l) = (V m c main_v81 : FVec Ideal S137x2 .f32) (ix2 k l) :=
  congrArg (V m c main_v81 : FVec Ideal S137x2 .f32) (ix2_ext _ k l (at_origin _ 137 _ (idx12 q n).1) (at_origin _ 2 _ (idx12 q n).2))

theorem idx13 : ∀ (q : Fin 4) (n : Fin 5), win0_13.index (pt q n) 0 = 0 ∧ win0_13.index (pt q n) 1 = 0 := by decide +kernel
theorem blk13 (q : Fin 4) (n : Fin 5) (k : Fin 1) (l : Fin 2) :
    (iblk m c 13 (pt q n) : Vec Ideal S1x2 .f32) (ix2 k l) = (V m c main_v82 : FVec Ideal S1x2 .f32) (ix2 k l) :=
  congrArg (V m c main_v82 : FVec Ideal S1x2 .f32) (ix2_ext _ k l (at_origin _ 1 _ (idx13 q n).1) (at_origin _ 2 _ (idx13 q n).2))
end Cert.KernelIdeal.Tile
-- ==== Proof.Arith.lean ====
module
public import proofs.«01_k».proof.Proof.Spec
@[expose] public section
set_option maxRecDepth 100000
noncomputable section

/-! Arithmetic of the extended reals that the two programs' forms differ by. -/

namespace Cert.Spec
open Idealize.ShloMosaic

theorem tanh_bot : Ideal.tanh ⊥ = ((-1 : ℝ) : EReal) := by
  rw [show Ideal.tanh ⊥ = (-1 : EReal) from rfl, EReal.coe_neg, EReal.coe_one]
theorem tanh_top : Ideal.tanh ⊤ = ((1 : ℝ) : EReal) := by
  rw [show Ideal.tanh ⊤ = (1 : EReal) from rfl, EReal.coe_one]

theorem tanh_real (x : EReal) : ∃ r : ℝ, Ideal.tanh x = r := by
  induction x using EReal.rec with
  | bot => exact ⟨-1, tanh_bot⟩
  | top => exact ⟨1, tanh_top⟩
  | coe r => exact ⟨Real.tanh r, rfl⟩

theorem half_mul_top : ((1 / 2 : ℝ) : EReal) * ⊤ = ⊤ := EReal.coe_mul_top_of_pos (by norm_num)
theorem half_mul_bot : ((1 / 2 : ℝ) : EReal) * ⊥ = ⊥ := EReal.coe_mul_bot_of_pos (by norm_num)

theorem real_sig (r : ℝ) : (1 + Real.exp (-r))⁻¹ = 1 / 2 * (Real.tanh (1 / 2 * r) + 1) := by
  have e : Real.exp (-r) = (Real.exp (1 / 2 * r))⁻¹ * (Real.exp (1 / 2 * r))⁻¹ := by
    rw [← Real.exp_neg, ← Real.exp_add]; congr 1; ring
  have hp := Real.exp_pos (1 / 2 * r)
  rw [Real.tanh_eq_sinh_div_cosh, Real.sinh_eq, Real.cosh_eq, e, Real.exp_neg]
  generalize Real.exp (1 / 2 * r) = a at hp
  have : a ≠ 0 := hp.ne'
  have h2 : a * a + 1 ≠ 0 := by positivity
  field_simp
  ring

/-- The logistic function, by the hyperbolic tangent of half the argument. -/
theorem sig_eq (x : EReal) : sig x = ((1 / 2 : ℝ) : EReal) * (Ideal.tanh (((1 / 2 : ℝ) : EReal) * x) + 1) := by
  unfold sig
  induction x using EReal.rec with
  | bot =>
    rw [half_mul_bot]
    have : Ideal.exp (-(⊥ : EReal)) = ⊤ := by rw [EReal.neg_bot]; rfl
    rw [this]
    have h1 : (1 : EReal) + ⊤ = ⊤ := EReal.add_top_of_ne_bot (by decide)
    rw [h1]
    have h2 : Ideal.div 1 ⊤ = 0 := by simp [Ideal.div]
    rw [h2, tanh_bot, ← EReal.coe_one, ← EReal.coe_add, ← EReal.coe_mul]
    norm_num
  | top =>
    rw [half_mul_top]
    have : Ideal.exp (-(⊤ : EReal)) = 0 := by rw [EReal.neg_top]; rfl
    rw [this]
    have h2 : Ideal.div 1 (1 + 0) = ((1 : ℝ) : EReal) := by simp [Ideal.div]
    rw [h2, tanh_top, ← EReal.coe_one, ← EReal.coe_add, ← EReal.coe_mul]
    norm_num
  | coe r =>
    have e : Ideal.exp (-(r : EReal)) = ((Real.exp (-r) : ℝ) : EReal) := by rw [← EReal.coe_neg]; rfl
    have t : Ideal.tanh (((1 / 2 : ℝ) : EReal) * (r : EReal)) = ((Real.tanh (1 / 2 * r) : ℝ) : EReal) := by rw [← EReal.coe_mul]; rfl
    rw [e, t, ← EReal.coe_one, ← EReal.coe_add, ← EReal.coe_add, ← EReal.coe_mul, ← real_sig]
    have hp : (1 + Real.exp (-r)) ≠ 0 := by have := Real.exp_pos (-r); positivity
    unfold Ideal.div
    rw [if_neg (by exact_mod_cast hp), EReal.coe_one, one_mul, EReal.coe_inv]

theorem tanh_half (x : EReal) : Ideal.tanh (((1 / 2 : ℝ) : EReal) * x) + 1 = ((2 : ℝ) : EReal) * sig x := by
  rw [sig_eq, ← mul_assoc, ← EReal.coe_mul]
  norm_num

theorem sig_real (x : EReal) : ∃ r : ℝ, sig x = r := by
  obtain ⟨t, ht⟩ := tanh_real (((1 / 2 : ℝ) : EReal) * x)
  exact ⟨1 / 2 * (t + 1), by rw [sig_eq, ht]; push_cast; rfl⟩

/-- A real factor that is not negative goes into a sum. -/
theorem mul_sum_nonneg {n : ℕ} (s : ℝ) (hs : 0 ≤ s) (f : Fin n → EReal) : (s : EReal) * ∑ i, f i = ∑ i, (s : EReal) * f i := by
  induction n with
  | zero => simp
  | succ n ih =>
    rw [Fin.sum_univ_succ, Fin.sum_univ_succ, EReal.left_distrib_of_nonneg_of_ne_top (by exact_mod_cast hs) (EReal.coe_ne_top s), ih]

/-- A sum of reals is their real sum. -/
theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- The cell state stays real. -/
theorem cell_real (I : Inputs) (b : Fin 2048) (t : ℕ) (j : Fin 128) : ∃ r : ℝ, (state I b t).2 j = r := by
  induction t with
  | zero => exact ⟨0, by rw [state]; rfl⟩
  | succ t ih =>
    rw [state]
    split_ifs with h
    · obtain ⟨c, hc⟩ := ih
      show ∃ r : ℝ, cellStep I _ _ _ j = r
      unfold cellStep
      rw [hc]
      obtain ⟨a, ha⟩ := sig_real (gate I (gin I ⟨t, h⟩ b) (state I b t).1 ⟨128 + j.val, by omega⟩)
      obtain ⟨d, hd⟩ := sig_real (gate I (gin I ⟨t, h⟩ b) (state I b t).1 ⟨j.val, by omega⟩)
      obtain ⟨e, he⟩ := tanh_real (gate I (gin I ⟨t, h⟩ b) (state I b t).1 ⟨256 + j.val, by omega⟩)
      exact ⟨c * a + d * e, by rw [ha, hd, he]; push_cast; rfl⟩
    · exact ih

end Cert.Spec
-- ==== Proof.Cell.lean ====
module
public import proofs.«01_k».proof.Proof.Payload
public import proofs.«01_k».proof.Proof.Host
public import proofs.«01_k».proof.Proof.Arith
@[expose] public section
set_option maxRecDepth 10000
noncomputable section

/-! One step of the kernel's recurrence is one step of the problem's. -/

namespace Cert.KernelIdeal.Tile
open Cert.KernelIdeal Cert.KernelIdeal.Gen Idealize.ShloMosaic
open Cert.Spec (Inputs gate cellStep hidStep)

/-- The gates' matrix holds the problem's weights, its bias in row 36, and zeros up to row 128, its columns scaled. -/
structure WOk (I : Inputs) (W : FVec Ideal S256x512 .f32) : Prop where
  x : ∀ (k : Fin 36) (j : Fin 512), W (ix2 ⟨k.val, by omega⟩ j) = I.Wx j k * gs j
  b : ∀ j : Fin 512, W (ix2 ⟨36, by omega⟩ j) = (I.bx j + I.bh j) * gs j
  z : ∀ (k : Fin 91) (j : Fin 512), W (ix2 ⟨37 + k.val, by omega⟩ j) = (0 : EReal)
  h : ∀ (k : Fin 128) (j : Fin 512), W (ix2 ⟨128 + k.val, by omega⟩ j) = I.Wh j k * gs j * ((1 / 2 : ℝ) : EReal)

/-- An encoded row holds the layer's input in its first 36 lanes and a one in the next. -/
structure GOk (x : Fin 36 → EReal) (g : Fin 128 → EReal) : Prop where
  x : ∀ k : Fin 36, g ⟨k.val, by omega⟩ = x k
  one : g ⟨36, by omega⟩ = 1

theorem gs_cases (j : Fin 512) : ∃ s : ℝ, 0 ≤ s ∧ gs j = (s : EReal) := by
  unfold gs
  split_ifs
  · exact ⟨1, by norm_num, rfl⟩
  · exact ⟨1 / 2, by norm_num, rfl⟩

/-- A sum over 128 lanes, the first 36, the next, and the rest. -/
theorem sum_lanes (f : Fin 128 → EReal) :
    ∑ k, f k = (∑ k : Fin 36, f ⟨k.val, by omega⟩) + (f ⟨36, by omega⟩ + ∑ k : Fin 91, f ⟨37 + k.val, by omega⟩) := by
  have h := Fin.sum_univ_add (M := EReal) (a := 36) (b := 92) f
  rw [Fin.sum_univ_succ (n := 91)] at h
  refine h.trans ?_
  have e : (∑ k : Fin 91, f (Fin.natAdd 36 k.succ)) = ∑ k : Fin 91, f ⟨37 + k.val, by omega⟩ :=
    Finset.sum_congr rfl fun k _ => congrArg f (Fin.ext (by show 36 + (k.val + 1) = 37 + k.val; omega))
  exact congrArg₂ (· + ·) rfl (congrArg₂ (· + ·) rfl e)

theorem add_arrange (a b c d : EReal) : a + (b + d) + c = a + b + c + d := by
  rw [← add_assoc, add_assoc (a + b), add_comm d c, ← add_assoc]

/-- The kernel's gate, from twice the hidden state, is the problem's times the column's factor. -/
theorem gate_eq (I : Inputs) (W : FVec Ideal S256x512 .f32) (hW : WOk I W) (x : Fin 36 → EReal) (g : Vec Ideal S1x512x128 .f32) (r : Fin 512)
    (hg : GOk x fun k => g (ix3 0 r k)) (h2 : Vec Ideal S512x128 .f32) (h : Fin 128 → EReal)
    (hh : ∀ j, h2 (ix2 r j) = ((2 : ℝ) : EReal) * h j) (j : Fin 512) :
    k0_pay104 W h2 g (ix2 r j) = gs j * gate I x h j := by
  rw [pay104_at, sum_lanes]
  obtain ⟨s, hs, es⟩ := gs_cases j
  have e1 : (∑ k : Fin 36, (g (ix3 0 r ⟨k.val, by omega⟩) : EReal) * W (ix2 ⟨k.val, by omega⟩ j)) = (s : EReal) * ∑ k, x k * I.Wx j k := by
    rw [Spec.mul_sum_nonneg s hs]
    refine Finset.sum_congr rfl fun k _ => ?_
    rw [hW.x k j, es]
    have := hg.x k
    rw [this, mul_comm (I.Wx j k), ← mul_assoc, mul_comm (x k), mul_assoc]
  have e2 : (g (ix3 0 r ⟨36, by omega⟩) : EReal) * W (ix2 ⟨36, by omega⟩ j) = (s : EReal) * (I.bx j + I.bh j) := by
    have := hg.one
    rw [this, hW.b j, es, one_mul, mul_comm]
  have e3 : (∑ k : Fin 91, (g (ix3 0 r ⟨37 + k.val, by omega⟩) : EReal) * W (ix2 ⟨37 + k.val, by omega⟩ j)) = 0 := by
    refine Finset.sum_eq_zero fun k _ => ?_
    rw [hW.z k j, mul_zero]
  have e4 : (∑ k : Fin 128, (h2 (ix2 r k) : EReal) * W (ix2 ⟨128 + k.val, by omega⟩ j)) = (s : EReal) * ∑ k, h k * I.Wh j k := by
    rw [Spec.mul_sum_nonneg s hs]
    refine Finset.sum_congr rfl fun k _ => ?_
    rw [hW.h k j, es, hh k]
    have t : ((2 : ℝ) : EReal) * ((1 / 2 : ℝ) : EReal) = 1 := by rw [← EReal.coe_mul]; norm_num
    calc ((2 : ℝ) : EReal) * h k * (I.Wh j k * (s : EReal) * ((1 / 2 : ℝ) : EReal))
        = (s : EReal) * (h k * I.Wh j k) * (((2 : ℝ) : EReal) * ((1 / 2 : ℝ) : EReal)) := by ac_rfl
      _ = _ := by rw [t, mul_one]
  have d := fun y z : EReal => (EReal.left_distrib_of_nonneg_of_ne_top (by exact_mod_cast hs : (0 : EReal) ≤ (s : EReal)) (EReal.coe_ne_top s) y z)
  have key : ((s : EReal) * ∑ k, x k * I.Wx j k) + ((s : EReal) * (I.bx j + I.bh j) + 0) + ((s : EReal) * ∑ k, h k * I.Wh j k)
      = (s : EReal) * gate I x h j := by
    rw [add_zero, ← d, ← d]
    unfold gate
    rw [add_arrange]
  rw [es, ← key]
  exact congrArg₂ (· + ·) (congrArg₂ (· + ·) e1 (congrArg₂ (· + ·) e2 e3)) e4

variable (I : Inputs) (W : FVec Ideal S256x512 .f32) (hW : WOk I W) (x : Fin 36 → EReal) (g : Vec Ideal S1x512x128 .f32) (r : Fin 512)
  (hg : GOk x fun k => g (ix3 0 r k)) (s : St Ideal) (h c : Fin 128 → EReal)
  (hh : ∀ j, s.1 (ix2 r j) = ((2 : ℝ) : EReal) * h j) (hc : ∀ j, s.2.1 (ix2 r j) = c j) (cr : ∀ j, ∃ a : ℝ, c j = a)

include hW hg hh hc cr in
theorem cell_eq (j : Fin 128) : k0_pay108 s.2.1 (k0_pay105 W s.1 g) (k0_pay106 W s.1 g) (k0_pay107 W s.1 g) (ix2 r j) = cellStep I x h c j := by
  rw [pay108_at, pay105_at, pay106_at, pay107_at]
  rw [gate_eq I W hW x g r hg s.1 h hh, gate_eq I W hW x g r hg s.1 h hh, gate_eq I W hW x g r hg s.1 h hh]
  have g1 : gs ⟨128 + j.val, by omega⟩ = ((1 / 2 : ℝ) : EReal) := if_neg (by show ¬ (256 ≤ 128 + j.val ∧ 128 + j.val < 384); omega)
  have g2 : gs ⟨256 + j.val, by omega⟩ = 1 := if_pos (by show (256 ≤ 256 + j.val ∧ 256 + j.val < 384); omega)
  have g3 : gs ⟨j.val, by omega⟩ = ((1 / 2 : ℝ) : EReal) := if_neg (by show ¬ (256 ≤ j.val ∧ j.val < 384); omega)
  have g1' : gs ⟨(⟨128 + j.val, by omega⟩ : Fin 256).val, by show 128 + j.val < 512; omega⟩ = ((1 / 2 : ℝ) : EReal) := g1
  have g2' : gs ⟨256 + (⟨j.val, by omega⟩ : Fin 256).val, by show 256 + j.val < 512; omega⟩ = 1 := g2
  rw [g1', g2', g3, one_mul, Spec.tanh_half, Spec.tanh_half, hc j]
  unfold cellStep
  obtain ⟨c0, e0⟩ := cr j
  obtain ⟨a, ha⟩ := Spec.sig_real (gate I x h ⟨128 + j.val, by omega⟩)
  obtain ⟨d, hd⟩ := Spec.sig_real (gate I x h ⟨j.val, by omega⟩)
  obtain ⟨e, he⟩ := Spec.tanh_real (gate I x h ⟨256 + j.val, by omega⟩)
  show ((1 / 2 : ℝ) : EReal) * (c j * (((2 : ℝ) : EReal) * Spec.sig (gate I x h ⟨128 + j.val, by omega⟩))
    + Ideal.tanh (gate I x h ⟨256 + j.val, by omega⟩) * (((2 : ℝ) : EReal) * Spec.sig (gate I x h ⟨j.val, by omega⟩))) = _
  rw [e0, ha, hd, he]
  rw [← EReal.coe_mul, ← EReal.coe_mul, ← EReal.coe_mul, ← EReal.coe_mul, ← EReal.coe_add, ← EReal.coe_mul, ← EReal.coe_mul, ← EReal.coe_mul, ← EReal.coe_add]
  congr 1
  ring

include hW hg hh hc cr in
theorem hid_eq (j : Fin 128) : k0_pay109 s.2.1 (k0_pay105 W s.1 g) (k0_pay106 W s.1 g) (k0_pay107 W s.1 g) (ix2 r j)
    = ((2 : ℝ) : EReal) * hidStep I x h c j := by
  rw [pay109_at, cell_eq I W hW x g r hg s h c hh hc cr j, pay106_at, gate_eq I W hW x g r hg s.1 h hh]
  have g1 : gs ⟨256 + (⟨128 + j.val, by omega⟩ : Fin 256).val, by show 256 + (128 + j.val) < 512; omega⟩ = ((1 / 2 : ℝ) : EReal) :=
    if_neg (by show ¬ (256 ≤ 256 + (128 + j.val) ∧ 256 + (128 + j.val) < 384); omega)
  rw [g1, Spec.tanh_half]
  unfold hidStep
  have e : (⟨256 + (⟨128 + j.val, by omega⟩ : Fin 256).val, by show 256 + (128 + j.val) < 512; omega⟩ : Fin 512) = ⟨384 + j.val, by omega⟩ :=
    Fin.ext (by show 256 + (128 + j.val) = 384 + j.val; omega)
  rw [e, mul_assoc]

/-- The kernel's counter of a time step, as a float. -/
theorem time_word (n k : ℕ) : (Scalar.sitofp .f32 (Scalar.addi (Scalar.muli (BitVec.ofNat 32 n) 43#32) (BitVec.ofNat 32 k)) : Ideal .f32)
    = (((BitVec.ofNat 32 (43 * n + k)).toInt : ℝ) : EReal) := by
  have e : Scalar.addi (Scalar.muli (BitVec.ofNat 32 n) 43#32) (BitVec.ofNat 32 k) = BitVec.ofNat 32 (43 * n + k) := by
    show BitVec.ofNat 32 n * BitVec.ofNat 32 43 + BitVec.ofNat 32 k = _
    rw [mul_comm, ← BitVec.ofNat_mul, ← BitVec.ofNat_add]
  rw [e]
  rfl

/-- The state of a batch block after `t` time steps, as the kernel holds it. -/
def Inv (q : Fin 4) (t : ℕ) (s : St Ideal) : Prop := ∀ (r : Fin 512) (j : Fin 128),
  s.1 (ix2 r j) = ((2 : ℝ) : EReal) * (Spec.state I ⟨512 * q.val + r.val, by omega⟩ t).1 j
  ∧ s.2.1 (ix2 r j) = (Spec.state I ⟨512 * q.val + r.val, by omega⟩ t).2 j
  ∧ s.2.2 (ix2 r j) = ((2 : ℝ) : EReal) * Spec.pool I ⟨512 * q.val + r.val, by omega⟩ j t

theorem inv_step (I : Inputs) (W : FVec Ideal S256x512 .f32) (hW : WOk I W) (q : Fin 4) (n k : ℕ) (ht : 43 * n + k < 215) (g : Vec Ideal S1x512x128 .f32)
    (hg : ∀ r : Fin 512, GOk (Spec.gin I ⟨43 * n + k, ht⟩ ⟨512 * q.val + r.val, by omega⟩) fun l => g (ix3 0 r l)) (lenb : Vec Ideal S512x128 .f32)
    (hl : ∀ (r : Fin 512) (j : Fin 128), lenb (ix2 r j) = (((I.len ⟨512 * q.val + r.val, by omega⟩).toInt : ℝ) : EReal))
    (s : St Ideal) (hs : Inv I q (43 * n + k) s) : Inv I q (43 * n + k + 1) (step (BitVec.ofNat 32 n) W lenb k g s) := by
  intro r j
  have hh := fun j => (hs r j).1
  have hc := fun j => (hs r j).2.1
  have cr := fun j => Spec.cell_real I ⟨512 * q.val + r.val, by omega⟩ (43 * n + k) j
  have H := hid_eq I W hW _ g r (hg r) s _ _ hh hc cr j
  have C := cell_eq I W hW _ g r (hg r) s _ _ hh hc cr j
  have S : Spec.state I ⟨512 * q.val + r.val, by omega⟩ (43 * n + k + 1) = (hidStep I (Spec.gin I ⟨43 * n + k, ht⟩ ⟨512 * q.val + r.val, by omega⟩)
      (Spec.state I ⟨512 * q.val + r.val, by omega⟩ (43 * n + k)).1 (Spec.state I ⟨512 * q.val + r.val, by omega⟩ (43 * n + k)).2,
      cellStep I (Spec.gin I ⟨43 * n + k, ht⟩ ⟨512 * q.val + r.val, by omega⟩)
      (Spec.state I ⟨512 * q.val + r.val, by omega⟩ (43 * n + k)).1 (Spec.state I ⟨512 * q.val + r.val, by omega⟩ (43 * n + k)).2) := by
    rw [Spec.state, dif_pos ht]
  refine ⟨?_, ?_, ?_⟩
  · rw [S]; exact H
  · rw [S]; exact C
  · rw [Spec.pool]
    show k0_pay110 lenb s.2.1 s.2.2 _ _ _ _ (ix2 r j) = _
    rw [pay110_at, H, time_word, hl r j, (hs r j).2.2, S,
      EReal.left_distrib_of_nonneg_of_ne_top (by exact_mod_cast (by norm_num : (0 : ℝ) ≤ 2)) (EReal.coe_ne_top 2)]
    congr 1
    by_cases hlt : (BitVec.ofNat 32 (43 * n + k)).toInt < (I.len ⟨512 * q.val + r.val, by omega⟩).toInt
    · rw [if_pos hlt, if_pos (by exact_mod_cast hlt)]
    · rw [if_neg hlt, if_neg (by exact_mod_cast hlt), mul_zero]

/-- A time block's 43 steps. -/
theorem inv_run (I : Inputs) (W : FVec Ideal S256x512 .f32) (hW : WOk I W) (q : Fin 4) (n : Fin 5) (g : ℕ → Vec Ideal S1x512x128 .f32)
    (hg : ∀ (k : Fin 43) (r : Fin 512), GOk (Spec.gin I ⟨43 * n.val + k.val, by omega⟩ ⟨512 * q.val + r.val, by omega⟩) fun l => g k.val (ix3 0 r l))
    (lenb : Vec Ideal S512x128 .f32)
    (hl : ∀ (r : Fin 512) (j : Fin 128), lenb (ix2 r j) = (((I.len ⟨512 * q.val + r.val, by omega⟩).toInt : ℝ) : EReal))
    (s : St Ideal) (hs : Inv I q (43 * n.val) s) (k : ℕ) (hk : k ≤ 43) : Inv I q (43 * n.val + k) (run (BitVec.ofNat 32 n.val) W lenb g s k) := by
  induction k with
  | zero => exact hs
  | succ k ih => exact inv_step I W hW q n.val k (by omega) (g k) (fun r => hg ⟨k, by omega⟩ r) lenb hl _ (ih (by omega))

end Cert.KernelIdeal.Tile
-- ==== Proof.Encode.lean ====
module
public import proofs.«01_k».proof.Proof.Cell
@[expose] public section
set_option maxRecDepth 10000
noncomputable section

/-! The kernel's encoded slab holds the problem's graph layer. -/

namespace Cert.KernelIdeal.Tile
open Cert.KernelIdeal Cert.KernelIdeal.Gen Idealize.ShloMosaic
open Cert.Spec (Inputs node agg mlp1 gin)

/-- A batch block's row, among all. -/
def row (q : Fin 4) (r : Fin 512) : Fin 2048 := ⟨512 * q.val + r.val, by omega⟩

/-- The encoder's operands hold the problem's folded weights. -/
structure EOk (I : Inputs) (w : FVec Ideal S36x128 .f32) (e o : FVec Ideal S1x128 .f32) : Prop where
  wi : ∀ (d : Fin 36) (l : Fin 36), w (ix2 d ⟨l.val, by omega⟩) = I.encW l d * (((8 : ℝ) : EReal) * foldA I)
  wo : ∀ (d : Fin 36) (l : Fin 128), 36 ≤ l.val → w (ix2 d l) = (0 : EReal)
  ei : ∀ l : Fin 36, e (ix2 0 ⟨l.val, by omega⟩) = I.encB l * (((8 : ℝ) : EReal) * foldA I) + foldB I
  eo : ∀ l : Fin 128, 36 ≤ l.val → e (ix2 0 l) = (0 : EReal)
  oi : o (ix2 0 ⟨36, by omega⟩) = (1 : EReal) - max I.b2 0
  oo : ∀ l : Fin 128, l.val ≠ 36 → o (ix2 0 l) = (0 : EReal)

theorem fold_real (I : Inputs) (ok : Spec.Ok I) : ∃ w1 b1 ga be : ℝ, I.w1 = w1 ∧ I.b1 = b1 ∧ I.gamma = ga ∧ I.beta = be
    ∧ foldA I = ((w1 * ga * Lit.root⁻¹ : ℝ) : EReal) ∧ foldB I = ((b1 * ga * Lit.root⁻¹ + be : ℝ) : EReal) := by
  obtain ⟨a, ha⟩ := ok.w1
  obtain ⟨b, hb⟩ := ok.b1
  obtain ⟨g, hg⟩ := ok.gamma
  obtain ⟨e, he⟩ := ok.beta
  refine ⟨a, b, g, e, ha, hb, hg, he, ?_, ?_⟩
  · unfold foldA; rw [ha, hg, ← EReal.coe_mul, ← EReal.coe_mul]
  · unfold foldB; rw [hb, hg, he, ← EReal.coe_mul, ← EReal.coe_mul, ← EReal.coe_add]

/-- A linear form of reals with a real offset is real, and scales. -/
theorem lin_scale (I : Inputs) (ok : Spec.Ok I) (A B : ℝ) (t : Fin 215) (b : Fin 2048) (k : Fin 36) : ∃ z : ℝ, node I t b k = z ∧
    (∑ d, I.src t b d * (I.encW k d * (((8 : ℝ) : EReal) * (A : EReal)))) + (I.encB k * (((8 : ℝ) : EReal) * (A : EReal)) + (B : EReal)) = ((A * z + B : ℝ) : EReal) := by
  choose s hs using fun d => ok.src t b d
  choose w hw using fun d => ok.encW k d
  obtain ⟨e, he⟩ := ok.encB k
  refine ⟨((∑ d, s d * w d) + e) * 8, ?_, ?_⟩
  · unfold node
    simp only [hs, hw, he, ← EReal.coe_mul, Spec.coe_sum, ← EReal.coe_add]
  · simp only [hs, hw, he, ← EReal.coe_mul, Spec.coe_sum, ← EReal.coe_add]
    congr 1
    have : (∑ d, s d * (w d * (8 * A))) = (∑ d, s d * w d) * (8 * A) := by
      rw [Finset.sum_mul]; exact Finset.sum_congr rfl fun d _ => by ring
    rw [this]; ring

variable (I : Inputs) (ok : Spec.Ok I) (w : FVec Ideal S36x128 .f32) (e o : FVec Ideal S1x128 .f32) (E : EOk I w e o)
  (g : Vec Ideal S1x512x36 .f32) (t : Fin 215) (q : Fin 4) (hg : ∀ (r : Fin 512) (d : Fin 36), g (ix3 0 r d) = I.src t (row q r) d)

include E hg in
theorem lin_in (r : Fin 512) (k : Fin 36) : lin w e g r ⟨k.val, by omega⟩
    = (∑ d, I.src t (row q r) d * (I.encW k d * (((8 : ℝ) : EReal) * foldA I))) + (I.encB k * (((8 : ℝ) : EReal) * foldA I) + foldB I) := by
  unfold lin
  rw [E.ei k]
  refine congrArg (· + _) (Finset.sum_congr rfl fun d _ => ?_)
  rw [E.wi d k, hg r d]

include E in
theorem lin_out (r : Fin 512) (l : Fin 128) (h : 36 ≤ l.val) : lin w e g r l = 0 := by
  unfold lin
  rw [E.eo l h, add_zero]
  exact Finset.sum_eq_zero fun d _ => by rw [E.wo d l h, mul_zero]

include ok E hg in
theorem lin_sum (hq : q.val = 0) : ∃ Z : ℝ, (∑ l, node I t 0 l) = Z ∧ (∑ l, lin w e g 0 l) - ((36 : ℝ) : EReal) * foldB I = foldA I * Z := by
  obtain ⟨w1, b1, ga, be, -, -, -, -, hA, hB⟩ := fold_real I ok
  generalize w1 * ga * Lit.root⁻¹ = A at hA
  generalize b1 * ga * Lit.root⁻¹ + be = B at hB
  choose z hz hz' using fun k => lin_scale I ok A B t 0 k
  have hb : row q 0 = 0 := Fin.ext (by show 512 * q.val + 0 = 0; omega)
  have hl : ∀ k : Fin 36, lin w e g 0 ⟨k.val, by omega⟩ = ((A * z k + B : ℝ) : EReal) := fun k => by
    rw [lin_in I w e o E g t q hg, hb, hA, hB, hz']
  refine ⟨∑ k, z k, ?_, ?_⟩
  · simp only [hz, Spec.coe_sum]
  · rw [sum_lanes, lin_out I w e o E g 0 _ (Nat.le_refl 36)]
    have h0 : (∑ k : Fin 91, lin w e g 0 ⟨37 + k.val, by omega⟩) = 0 :=
      Finset.sum_eq_zero fun k _ => lin_out I w e o E g 0 _ (by show 36 ≤ 37 + k.val; omega)
    rw [h0, add_zero, add_zero]
    simp only [hl, Spec.coe_sum]
    rw [hA, hB, ← EReal.coe_mul, ← EReal.coe_mul, ← EReal.coe_sub]
    congr 1
    rw [Finset.sum_add_distrib, ← Finset.mul_sum]
    simp

/-- The folded affine map, on a real. -/
theorem mlp1_fold (x : ℝ) : mlp1 I x = max (max (foldA I * x + foldB I) 0 * I.w2 + I.b2) 0 ∨ ¬ Spec.Ok I := by
  by_cases ok : Spec.Ok I
  · left
    obtain ⟨w1, b1, ga, be, h1, h2, h3, h4, hA, hB⟩ := fold_real I ok
    unfold mlp1
    have hr : (Lit.root : EReal) ≠ 0 := by exact_mod_cast Lit.root_pos.ne'
    have e : Ideal.div ((x : EReal) * I.w1 + I.b1) (Lit.root : EReal) * I.gamma + I.beta = foldA I * (x : EReal) + foldB I := by
      unfold Ideal.div
      rw [if_neg hr, hA, hB, h1, h2, h3, h4, ← EReal.coe_inv, ← EReal.coe_mul, ← EReal.coe_add, ← EReal.coe_mul, ← EReal.coe_mul, ← EReal.coe_add,
        ← EReal.coe_mul, ← EReal.coe_add]
      congr 1
      ring
    rw [e]
  · exact Or.inr ok

include ok E hg in
/-- The slab before the perceptron's second step, on the first 36 lanes. -/
theorem pre_eq (m8 : Vec Ideal S8x128 .f32) (hm : ∀ (r : Fin 8) (j : Fin 128), m8 (ix2 r j) = (if q.val = 0 ∧ r.val = 0 ∧ j.val < 36 then 1 else 0 : EReal))
    (r : Fin 512) (k : Fin 36) : ∃ z : ℝ, agg I t (row q r) k = z ∧
      (if h : r.val < 8 then lin w e g r ⟨k.val, by omega⟩ + (m8 (ix2 ⟨r.val, h⟩ ⟨k.val, by omega⟩) : EReal)
          * (((2 : ℝ) : EReal) * ((∑ x, lin w e g 0 x) - ((36 : ℝ) : EReal) * foldB I))
        else lin w e g r ⟨k.val, by omega⟩) = foldA I * z + foldB I := by
  obtain ⟨w1, b1, ga, be, -, -, -, -, hA, hB⟩ := fold_real I ok
  generalize w1 * ga * Lit.root⁻¹ = A at hA
  generalize b1 * ga * Lit.root⁻¹ + be = B at hB
  obtain ⟨z, hz, hz'⟩ := lin_scale I ok A B t (row q r) k
  have hl : lin w e g r ⟨k.val, by omega⟩ = ((A * z + B : ℝ) : EReal) := by rw [lin_in I w e o E g t q hg, hA, hB, hz']
  by_cases h0 : q.val = 0 ∧ r.val = 0
  · obtain ⟨Z, hZ, hZ'⟩ := lin_sum I ok w e o E g t q hg h0.1
    have h8 : r.val < 8 := by omega
    refine ⟨z + 2 * Z, ?_, ?_⟩
    · unfold agg
      rw [hz, if_pos (by show 512 * q.val + r.val = 0; omega), hZ, ← EReal.coe_mul, ← EReal.coe_add]
    · rw [dif_pos h8, hm, if_pos ⟨h0.1, h0.2, by show k.val < 36; omega⟩, one_mul, hZ', hl, hA, hB, ← EReal.coe_mul, ← EReal.coe_mul, ← EReal.coe_add,
        ← EReal.coe_mul, ← EReal.coe_add]
      congr 1
      ring
  · refine ⟨z, ?_, ?_⟩
    · unfold agg
      rw [hz, if_neg (by show ¬ 512 * q.val + r.val = 0; omega), add_zero]
    · have f : ((A * z + B : ℝ) : EReal) = foldA I * z + foldB I := by rw [hA, hB, ← EReal.coe_mul, ← EReal.coe_add]
      split_ifs with h8
      · rw [hm, if_neg (by intro h; exact h0 ⟨h.1, h.2.1⟩), zero_mul, add_zero, hl, f]
      · rw [hl, f]

include ok E hg in
theorem enc_ok (m8 : Vec Ideal S8x128 .f32) (hm : ∀ (r : Fin 8) (j : Fin 128), m8 (ix2 r j) = (if q.val = 0 ∧ r.val = 0 ∧ j.val < 36 then 1 else 0 : EReal))
    (r : Fin 512) : GOk (gin I t (row q r))
      fun l => k0_pay21 I.w2 I.b2 (((36 : ℝ) : EReal) * foldB I : EReal) w e o m8 g (ix3 0 r l) := by
  constructor
  · intro k
    rw [pay21_at]
    obtain ⟨z, hz, hz'⟩ := pre_eq I ok w e o E g t q hg m8 hm r k
    rw [hz', E.oo _ (by show k.val ≠ 36; omega), add_zero]
    unfold gin
    rw [hz]
    exact ((mlp1_fold I z).resolve_right (not_not_intro ok)).symm
  · rw [pay21_at, E.oi]
    have h0 : (if h : r.val < 8 then lin w e g r ⟨36, by omega⟩ + (m8 (ix2 ⟨r.val, h⟩ ⟨36, by omega⟩) : EReal)
          * (((2 : ℝ) : EReal) * ((∑ x, lin w e g 0 x) - ((36 : ℝ) : EReal) * foldB I))
        else lin w e g r ⟨36, by omega⟩) = 0 := by
      split_ifs with h8
      · rw [hm, if_neg (by rintro ⟨-, -, h⟩; exact absurd h (by show ¬ 36 < 36; omega)), zero_mul, add_zero]
        exact lin_out I w e o E g r _ (Nat.le_refl 36)
      · exact lin_out I w e o E g r _ (Nat.le_refl 36)
    rw [h0, max_self, zero_mul, zero_add]
    obtain ⟨b, hb⟩ := ok.b2
    have hx : max I.b2 0 = ((max b 0 : ℝ) : EReal) := by rw [hb]; exact (EReal.coe_strictMono.monotone.map_max (a := b) (b := 0)).symm
    rw [hx, ← EReal.coe_one, ← EReal.coe_sub, ← EReal.coe_add]
    congr 1
    ring

end Cert.KernelIdeal.Tile
-- ==== Proof.KernelValue.lean ====
module
public import proofs.«01_k».proof.Proof.Blocks
public import proofs.«01_k».proof.Proof.Encode
@[expose] public section
set_option maxRecDepth 10000
noncomputable section

/-! The kernel program's result is the problem's. -/

namespace Cert.KernelIdeal.Tile
open Cert.KernelIdeal Cert.KernelIdeal.Gen Cert.KernelIdeal.Value Idealize.ShloMosaic Idealize.ShloMosaic.TcCoe
variable (m : (ℓ : Loc nD τ sig) → Buf (Elt Ideal) ℓ) (c : Dev nD)

theorem w_ok (q : Fin 4) (n : Fin 5) : WOk (inp m c) (iblk m c 4 (pt q n) : Vec Ideal S256x512 .f32) where
  x k j := by rw [blk4, gateW_top _ _ _ _ (by show k.val < 128; omega), raw_x _ _ _ _ k rfl]
  b j := by rw [blk4, gateW_top _ _ _ _ (by show 36 < 128; omega), raw_b _ _ _ _ rfl]
  z k j := by rw [blk4, gateW_top _ _ _ _ (by show 37 + k.val < 128; omega), raw_0 _ _ _ _ (by show 36 < 37 + k.val; omega) (by show 37 + k.val < 128; omega), zero_mul]
  h k j := by rw [blk4, gateW_low _ _ _ _ k rfl]

theorem e_ok (q : Fin 4) (n : Fin 5) : EOk (inp m c) (iblk m c 2 (pt q n) : Vec Ideal S36x128 .f32) (iblk m c 3 (pt q n) : Vec Ideal S1x128 .f32)
    (iblk m c 5 (pt q n) : Vec Ideal S1x128 .f32) where
  wi d l := by rw [blk2, encW_in _ _ _ _ l rfl]
  wo d l h := by rw [blk2, encW_out _ _ _ _ h]
  ei l := by rw [blk3, encB_in _ _ _ l rfl]
  eo l h := by rw [blk3, encB_out _ _ _ h]
  oi := by rw [blk5, adj_in _ _ _ rfl]
  oo l h := by rw [blk5, adj_out _ _ _ h]

theorem after_inv (ok : Spec.Ok (inp m c)) (q : Fin 4) (n : ℕ) (hn : n ≤ 5) : Inv (inp m c) q (43 * n) (after m c q n) := by
  induction n with
  | zero =>
    intro r j
    rw [after]
    refine ⟨?_, ?_, ?_⟩
    · rw [show Spec.state (inp m c) _ (43 * 0) = (0, 0) from by rw [Nat.mul_zero, Spec.state]]
      exact (pay3_at r j).trans (mul_zero _).symm
    · rw [show Spec.state (inp m c) _ (43 * 0) = (0, 0) from by rw [Nat.mul_zero, Spec.state]]
      exact pay4_at r j
    · rw [show Spec.pool (inp m c) _ j (43 * 0) = 0 from by rw [Nat.mul_zero, Spec.pool], mul_zero]
      exact pay5_at r j
  | succ n ih =>
    have h5 : n < 5 := by omega
    rw [after, dif_pos h5]
    unfold point
    rw [(coords_pt q ⟨n, h5⟩).2]
    refine inv_run (inp m c) _ (w_ok m c q ⟨n, h5⟩) q ⟨n, h5⟩ _ (fun k r => ?_) _ (fun r j => ?_) _ (ih (by omega)) 43 (Nat.le_refl _)
    · have := enc_ok (inp m c) ok _ _ _ (e_ok m c q ⟨n, h5⟩) (srcSlab (iblk m c 0 (pt q ⟨n, h5⟩)) k.val) ⟨43 * n + k.val, by omega⟩ q
        (fun r d => (srcSlab_at _ _ k.isLt r d).trans (blk0 m c q ⟨n, h5⟩ k r d)) (k0_pay6 (F := Ideal) (grid0.coords (pt q 0)))
        (fun r j => (pay6_at (grid0.coords (pt q 0)) r j).trans (by rw [(coords_pt q 0).1])) r
      rw [enc_at]
      have s2 : (iblk m c 1 (pt q ⟨n, h5⟩) : Vec Ideal S1x6 .f32) (ix2 0 2) = (inp m c).w2 := (blk1 m c q ⟨n, h5⟩ 2).trans (scal_2 m c)
      have s3 : (iblk m c 1 (pt q ⟨n, h5⟩) : Vec Ideal S1x6 .f32) (ix2 0 3) = (inp m c).b2 := (blk1 m c q ⟨n, h5⟩ 3).trans (scal_3 m c)
      have s4 : (iblk m c 1 (pt q ⟨n, h5⟩) : Vec Ideal S1x6 .f32) (ix2 0 4) = ((36 : ℝ) : EReal) * foldB (inp m c) := (blk1 m c q ⟨n, h5⟩ 4).trans (scal_4 m c)
      rw [s2, s3, s4]
      exact this
    · rw [pay7_at]
      exact blk6 m c q 0 r

/-- A sum over the output layers' inputs: the pooled state's lanes, then the static features. -/
theorem sum_feat (f : Fin 137 → EReal) : ∑ k, f k = (∑ k : Fin 128, f ⟨k.val, by omega⟩) + ∑ k : Fin 9, f ⟨128 + k.val, by omega⟩ :=
  Fin.sum_univ_add (a := 128) (b := 9) f

/-- The mean of a pooled state kept doubled, by the halved factor. -/
theorem mean_half (p : EReal) (n : ℤ) (h : n ≠ -1) :
    ((2 : ℝ) : EReal) * p * Ideal.div ((1 / 2 : ℝ) : EReal) (((n : ℝ) : EReal) + 1) = Ideal.div p (((n : ℝ) : EReal) + 1) := by
  have hne : ((n : ℝ) : EReal) + 1 ≠ 0 := by
    rw [← EReal.coe_one, ← EReal.coe_add]
    have h' : (n : ℝ) + 1 ≠ 0 := by
      intro e
      apply h
      have : (n : ℝ) = ((-1 : ℤ) : ℝ) := by push_cast; linarith
      exact_mod_cast this
    exact_mod_cast h'
  unfold Ideal.div
  rw [if_neg hne, if_neg hne]
  have t : ((2 : ℝ) : EReal) * ((1 / 2 : ℝ) : EReal) = 1 := by rw [← EReal.coe_mul]; norm_num
  generalize (((n : ℝ) : EReal) + 1)⁻¹ = d
  calc ((2 : ℝ) : EReal) * p * (((1 / 2 : ℝ) : EReal) * d) = p * d * (((2 : ℝ) : EReal) * ((1 / 2 : ℝ) : EReal)) := by ac_rfl
    _ = _ := by rw [t, mul_one]

theorem feat_pool (I : Spec.Inputs) (b : Fin 2048) (y : Fin 128) :
    Spec.feat I b ⟨y.val, by omega⟩ = Ideal.div (Spec.pool I b y 215) ((((I.len b).toInt : ℝ) : EReal) + 1) := by
  unfold Spec.feat
  rw [dif_pos (by show y.val < 128; omega)]

theorem feat_stat (I : Spec.Inputs) (b : Fin 2048) (y : Fin 9) : Spec.feat I b ⟨128 + y.val, by omega⟩ = I.stat b y := by
  unfold Spec.feat
  rw [dif_neg (by show ¬ 128 + y.val < 128; omega)]
  have e : (⟨128 + y.val - 128, by omega⟩ : Fin 9) = y := Fin.ext (by show 128 + y.val - 128 = y.val; omega)
  exact congrArg (I.stat b) e

/-- The output layers, on a pooled state kept doubled. -/
theorem head_eq (I : Spec.Inputs) (ok : Spec.Ok I) (b : Fin 2048) (r : Fin 512) (a : Vec Ideal S512x128 .f32) (i : Vec Ideal S512x1 .f32) (wh : Vec Ideal S128x137 .f32)
    (d : Vec Ideal S512x9 .f32) (ws : Vec Ideal S9x137 .f32) (b1 : Vec Ideal S1x137 .f32) (w2 : Vec Ideal S137x2 .f32) (b2 : Vec Ideal S1x2 .f32)
    (ha : ∀ y, a (ix2 r y) = ((2 : ℝ) : EReal) * Spec.pool I b y 215)
    (hi : i (ix2 r 0) = Ideal.div ((1 / 2 : ℝ) : EReal) ((((I.len b).toInt : ℝ) : EReal) + 1))
    (hwh : ∀ (k : Fin 128) (l : Fin 137), wh (ix2 k l) = I.W1 l ⟨k.val, by omega⟩) (hd : ∀ k, d (ix2 r k) = I.stat b k)
    (hws : ∀ (k : Fin 9) (l : Fin 137), ws (ix2 k l) = I.W1 l ⟨128 + k.val, by omega⟩) (hb1 : ∀ l, b1 (ix2 0 l) = I.B1 l)
    (hw2 : ∀ (l : Fin 137) (j : Fin 2), w2 (ix2 l j) = I.W2 j l) (hb2 : ∀ j, b2 (ix2 0 j) = I.B2 j) (j : Fin 2) :
    k0_pay1 a i wh d ws b1 w2 b2 (ix2 r j) = Spec.out I b j := by
  rw [pay1_at]
  unfold Spec.out
  rw [hb2]
  refine congrArg (· + _) (Finset.sum_congr rfl fun l _ => ?_)
  rw [hw2, hb1]
  refine congrArg (fun z => max (z + _) 0 * _) ?_
  rw [sum_feat]
  refine congrArg₂ (· + ·) (Finset.sum_congr rfl fun y _ => ?_) (Finset.sum_congr rfl fun y _ => ?_)
  · rw [ha, hi, hwh, mean_half _ _ (ok.len b), feat_pool]
  · rw [hd, hws, feat_stat]

theorem row_eq (ok : Spec.Ok (inp m c)) (q : Fin 4) (r : Fin 512) (j : Fin 2) :
    k0_pay1 (after m c q 5).2.2 (iblk m c 7 (pt q 4)) (iblk m c 9 (pt q 4)) (iblk m c 8 (pt q 4))
      (iblk m c 10 (pt q 4)) (iblk m c 11 (pt q 4)) (iblk m c 12 (pt q 4)) (iblk m c 13 (pt q 4)) (ix2 r j) = Spec.out (inp m c) (row q r) j :=
  head_eq (inp m c) ok (row q r) r _ _ _ _ _ _ _ _
    (fun y => (after_inv m c ok q 5 (by omega) r y).2.2) (blk7 m c q 4 r)
    (fun k l => (blk9 m c q 4 k l).trans (w1h_at m c k l)) (fun k => blk8 m c q 4 r k)
    (fun k l => (blk10 m c q 4 k l).trans (w1s_at m c k l)) (fun l => (blk11 m c q 4 0 l).trans (b1_at m c l))
    (fun l j => (blk12 m c q 4 l j).trans (w2_at m c l j)) (fun j => (blk13 m c q 4 0 j).trans (b2_at m c j)) j

theorem G14_spec (ok : Spec.Ok (inp m c)) (b : Fin 2048) (j : Fin 2) : G14 m c (ix2 b j) = Spec.out (inp m c) b j := by
  have hb := b.isLt
  have hr : b.val % 512 < 512 := Nat.mod_lt _ (by omega)
  rw [G14_eq m c (ix2 b j) ⟨b.val / 512, by omega⟩ rfl]
  have hloc : loc14Of (ix2 b j) = ix2 ⟨b.val % 512, hr⟩ j := by
    funext a
    match a with
    | ⟨0, _⟩ => rfl
    | ⟨1, _⟩ => exact Fin.ext (Nat.mod_eq_of_lt j.isLt)
  have eb : row ⟨b.val / 512, by omega⟩ ⟨b.val % 512, hr⟩ = b := Fin.ext (Nat.div_add_mod b.val 512)
  rw [hloc, row_eq m c ok, eb]

end Cert.KernelIdeal.Tile
-- ==== Proof.RefTable.lean ====
/- The reference's edge list: 2592 edges among the 36 nodes of the first batch row, every ordered pair twice. -/
module

public import proofs.«01_k».proof.Proof.Gen.ReferenceIdeal.Run
public import Idealize.ShloMosaic.Lib.Pointwise
public import Idealize.ShloMosaic.Lib.ValueIdx
public import Idealize.ShloMosaic.Lib.Routing.OpsPair

@[expose] public section

set_option maxRecDepth 100000

noncomputable section

namespace Cert.ReferenceIdeal.Table

open Cert.ReferenceIdeal Cert.ReferenceIdeal.Gen Cert.ReferenceIdeal.Value Idealize.ShloMosaic Idealize.ShloMosaic.TcCoe Idealize.ShloMosaic.Routing

/-- The source node of an edge. -/
def src (e : ℕ) : ℕ := if e < 1296 then e / 36 else e % 36
/-- The destination node of an edge. -/
def dst (e : ℕ) : ℕ := if e < 1296 then e % 36 else e / 36 - 36

theorem lit0_eq : ∀ e : Fin 2592, lit0 e = BitVec.ofNat 32 (src e.val) := by decide +kernel
theorem lit1_eq : ∀ e : Fin 2592, lit1 e = BitVec.ofNat 32 (dst e.val) := by decide +kernel

/-- A gather of columns at an edge's source. -/
theorem gather_at {α : Type} (x : S215x73728.Idx → α) (idx : IVec S2592x1 32) (t : Fin 215) (e : Fin 2592) (n : Fin 73728)
    (h : idx (ix2 e (0 : Fin 1)) = BitVec.ofNat 32 n.val) :
    Host.gather gather_S215x73728_S2592x1_S215x2592_0_1_n_n_1_1_2151 x idx (ix2 t e) = x (ix2 t n) := by
  unfold Host.gather
  refine congrArg x (funext fun a => Fin.ext ?_)
  have hn : (BitVec.ofNat 32 n.val).toInt = n.val := by
    rw [BitVec.toInt_eq_toNat_of_lt] <;> simp <;> omega
  match a with
  | ⟨0, _⟩ =>
    show 0 + 0 + t.val = t.val
    omega
  | ⟨1, _⟩ =>
    have hs : gather_S215x73728_S2592x1_S215x2592_0_1_n_n_1_1_2151.start (ix2 t e) idx 1 = n.val := by
      unfold GatherDims.start
      rw [dif_pos (by decide)]
      have hi : gather_S215x73728_S2592x1_S215x2592_0_1_n_n_1_1_2151.siIdx (ix2 t e) ⟨List.idxOf 1 gather_S215x73728_S2592x1_S215x2592_0_1_n_n_1_1_2151.startIndexMap, by decide⟩ = ix2 e (0 : Fin 1) := by
        funext b
        match b with
        | ⟨0, _⟩ => rfl
        | ⟨1, _⟩ => rfl
      refine (congrArg (fun i => min (idx i).toInt.toNat (73728 - 1)) hi).trans ?_
      rw [h, hn]
      omega
    show gather_S215x73728_S2592x1_S215x2592_0_1_n_n_1_1_2151.start (ix2 t e) idx 1 + 0 + 0 = n.val
    omega

theorem start_at (idx : IVec S2592x1 32) (k : S215x2592.Idx) :
    scatter_S215x73728_S2592x1_S215x2592_0_1_1_1.start k idx 0 = 0
    ∧ scatter_S215x73728_S2592x1_S215x2592_0_1_1_1.start k idx 1 = (idx (ix2 (k 1) (0 : Fin 1))).toInt
    ∧ scatter_S215x73728_S2592x1_S215x2592_0_1_1_1.window k 0 = (k 0).val ∧ scatter_S215x73728_S2592x1_S215x2592_0_1_1_1.window k 1 = 0 := by
  refine ⟨rfl, ?_, rfl, rfl⟩
  unfold ScatterDims.start; rw [dif_pos (by decide)]; congr 2; funext a
  match a with
  | ⟨0, _⟩ => rfl
  | ⟨1, _⟩ => rfl

/-- An accumulating scatter of columns: an entry collects its row's updates whose edge ends at its column. -/
theorem scatter_at (x : FVec Ideal S215x73728 .f32) (idx : IVec S2592x1 32) (upd : FVec Ideal S215x2592 .f32) (t : Fin 215) (n : Fin 73728)
    (h : ∀ e : Fin 2592, (idx (ix2 e (0 : Fin 1))).toInt = dst e.val) :
    Host.scatterAdd scatter_S215x73728_S2592x1_S215x2592_0_1_1_1 x idx upd (ix2 t n)
      = (x (ix2 t n) : EReal) + ∑ e : Fin 2592, if dst e.val = n.val then (upd (ix2 t e) : EReal) else 0 := by
  show (x (ix2 t n) : EReal) + ∑ k ∈ Finset.univ.filter (fun k => scatter_S215x73728_S2592x1_S215x2592_0_1_1_1.resultIdx? k idx = some (ix2 t n)), (upd k : EReal) = _
  refine congrArg _ ?_
  have land : ∀ (s : Fin 215) (e : Fin 2592), scatter_S215x73728_S2592x1_S215x2592_0_1_1_1.resultIdx? (ix2 s e) idx = some (ix2 t n)
      ↔ s = t ∧ dst e.val = n.val := by
    intro s e
    obtain ⟨h0, h1, h2, h3⟩ := start_at idx (ix2 s e)
    refine (resultIdx?_ix2 _ (ix2 s e) idx t n).trans ?_
    rw [h0, h1, h2, h3]
    have he : (idx (ix2 ((ix2 s e : S215x2592.Idx) 1) (0 : Fin 1))).toInt = dst e.val := h e
    have hs : ((ix2 s e : S215x2592.Idx) 0).val = s.val := rfl
    rw [he, hs, Fin.ext_iff]
    omega
  rw [Finset.sum_filter, Idealize.ShloMosaic.sum_idx2]
  rw [Finset.sum_eq_single t]
  · refine Finset.sum_congr rfl fun e _ => if_congr ?_ rfl rfl
    rw [land t e]
    exact ⟨fun q => q.2, fun q => ⟨rfl, q⟩⟩
  · intro s _ hs
    exact Finset.sum_eq_zero fun e _ => if_neg fun q => hs ((land s e).1 q).1
  · intro h; exact absurd (Finset.mem_univ _) h

/-- The edges that end at a node. -/
theorem sum_edges (f : ℕ → EReal) (n : ℕ) :
    (∑ e : Fin 2592, if dst e.val = n then f (src e.val) else 0) = if n < 36 then (∑ l : Fin 36, f l.val) + ∑ l : Fin 36, f l.val else 0 := by
  have e1 : ∀ g : ℕ → EReal, (∑ e : Fin 2592, g e.val) = ∑ a : Fin 72, ∑ l : Fin 36, g (a.val * 36 + l.val) := by
    intro g
    rw [show (∑ e : Fin 2592, g e.val) = ∑ e : Fin (72 * 36), g e.val from rfl, ← finProdFinEquiv.sum_comp, Fintype.sum_prod_type]
    refine Finset.sum_congr rfl fun a _ => Finset.sum_congr rfl fun l _ => congrArg g ?_
    simp [finProdFinEquiv]; omega
  rw [e1 fun e => if dst e = n then f (src e) else 0]
  refine (Fin.sum_univ_add (a := 36) (b := 36) fun a => ∑ l : Fin 36, if dst (a.val * 36 + l.val) = n then f (src (a.val * 36 + l.val)) else 0).trans ?_
  have lo : ∀ a l : Fin 36, (if dst ((Fin.castAdd 36 a).val * 36 + l.val) = n then f (src ((Fin.castAdd 36 a).val * 36 + l.val)) else 0)
      = if l.val = n then f a.val else 0 := by
    intro a l
    have := a.isLt
    have := l.isLt
    have d : dst ((Fin.castAdd 36 a).val * 36 + l.val) = l.val := by
      unfold dst; simp only [Fin.val_castAdd]; rw [if_pos (by omega)]; omega
    have s : src ((Fin.castAdd 36 a).val * 36 + l.val) = a.val := by
      unfold src; simp only [Fin.val_castAdd]; rw [if_pos (by omega)]; omega
    rw [d, s]
  have hi : ∀ a l : Fin 36, (if dst ((Fin.natAdd 36 a).val * 36 + l.val) = n then f (src ((Fin.natAdd 36 a).val * 36 + l.val)) else 0)
      = if a.val = n then f l.val else 0 := by
    intro a l
    have := a.isLt
    have := l.isLt
    have d : dst ((Fin.natAdd 36 a).val * 36 + l.val) = a.val := by
      unfold dst; simp only [Fin.val_natAdd]; rw [if_neg (by omega)]; omega
    have s : src ((Fin.natAdd 36 a).val * 36 + l.val) = l.val := by
      unfold src; simp only [Fin.val_natAdd]; rw [if_neg (by omega)]; omega
    rw [d, s]
  simp only [lo, hi]
  by_cases h : n < 36
  · rw [if_pos h]
    have p : ∀ x : Fin 36, (x.val = n) = (x = ⟨n, h⟩) := fun x => by rw [Fin.ext_iff]
    refine congrArg₂ (· + ·) (Finset.sum_congr rfl fun a _ => ?_) ?_
    · simp only [p, Finset.sum_ite_eq', Finset.mem_univ, if_true]
    · rw [Finset.sum_comm]
      refine Finset.sum_congr rfl fun l _ => ?_
      simp only [p, Finset.sum_ite_eq', Finset.mem_univ, if_true]
  · rw [if_neg h]
    have p : ∀ x : Fin 36, (x.val = n) = False := fun x => by simp; omega
    simp only [p, if_false, Finset.sum_const_zero, add_zero]

end Cert.ReferenceIdeal.Table

end
-- ==== Proof.RefLoop.lean ====
/- The reference's time loop: after `k` turns the carried arrays hold the specification's state. -/
module

public import proofs.«01_k».proof.Proof.Gen.ReferenceIdeal.Run
public import proofs.«01_k».proof.Proof.Spec
public import Idealize.ShloMosaic.Lib.StableHlo.ReadAt
public import Idealize.ShloMosaic.Lib.WordCmp
public import Idealize.ShloMosaic.Lib.Pointwise

@[expose] public section

set_option maxRecDepth 100000

noncomputable section

namespace Cert.ReferenceIdeal.Loop

open Cert.ReferenceIdeal Cert.ReferenceIdeal.Gen Cert.ReferenceIdeal.Value Idealize.ShloMosaic Idealize.ShloMosaic.TcCoe
open Idealize.ShloMosaic.StableHlo Idealize.ShloMosaic.WordCmp

variable (I : Spec.Inputs) (V : Valuation τ sig (Elt Ideal))

/-- What the loop's carried arrays hold after `k` turns. -/
structure Inv (k : ℕ) : Prop where
  xs : ∀ t b q, (V (Proc.devRef .tc main_v46_0) : FVec Ideal S215x2048x36 .f32) (ix3 t b q) = Spec.gin I t b q
  wx : ∀ j q, (V (Proc.devRef .tc main_v46_1) : FVec Ideal S512x36 .f32) (ix2 j q) = I.Wx j q
  bx : ∀ j, (V (Proc.devRef .tc main_v46_2) : FVec Ideal S512 .f32) (ix1 j) = I.bx j
  wh : ∀ j q, (V (Proc.devRef .tc main_v46_3) : FVec Ideal S512x128 .f32) (ix2 j q) = I.Wh j q
  bh : ∀ j, (V (Proc.devRef .tc main_v46_4) : FVec Ideal S512 .f32) (ix1 j) = I.bh j
  ctr : (V (Proc.devRef .tc main_v46_5) : IVec S_ 32) = fun _ => BitVec.ofNat 32 k
  hid : ∀ b j, (V (Proc.devRef .tc main_v46_6) : FVec Ideal S2048x128 .f32) (ix2 b j) = (Spec.state I b k).1 j
  cell : ∀ b j, (V (Proc.devRef .tc main_v46_7) : FVec Ideal S2048x128 .f32) (ix2 b j) = (Spec.state I b k).2 j
  outs : ∀ (t : Fin 215) b j, (V (Proc.devRef .tc main_v46_8) : FVec Ideal S215x2048x128 .f32) (ix3 t b j)
    = if t.val < k then (Spec.state I b (t.val + 1)).1 j else 0

/-- The three starts of the loop's slices, read as numbers. -/
theorem start_toInt (k : ℕ) (hk : k < 215) (hc : (V (Proc.devRef .tc main_v46_5) : IVec S_ 32) = fun _ => BitVec.ofNat 32 k) (a : Fin 3) :
    BitVec.toInt ((![V (Proc.devRef .tc main_v46_5), constantI S_ 32 0#32, constantI S_ 32 0#32] : Fin 3 → IVec S_ 32) a (Shape.Idx.first h_S_))
      = ((![k, 0, 0] : Fin 3 → ℕ) a : ℤ) := by
  have e : (BitVec.ofNat 32 k).toInt = (k : ℤ) := by
    rw [BitVec.toInt_eq_toNat_of_lt] <;> simp <;> omega
  fin_cases a
  · simp only [Fin.zero_eta, Matrix.cons_val_zero]; rw [hc]; exact e
  · rfl
  · rfl

section Step
variable {I V} {k : ℕ} (hk : k < 215) (H : Inv I V k)
include hk H

theorem gates_at (b : Fin 2048) (j : Fin 512) :
    (res_main_while0b_v87 V : FVec Ideal S2048x512 .f32) (ix2 b j)
      = Spec.gate I (Spec.gin I ⟨k, hk⟩ b) (Spec.state I b k).1 j := by
  have hs := start_toInt V k hk H.ctr
  unfold res_main_while0b_v87 Spec.gate
  clean_types
  rw [dynamicSlice_eq_extract S1x2048x36 _ _ _ ![k, 0, 0] (by refine ⟨rfl, fun a => ?_⟩; fin_cases a <;> simp <;> omega) hs]
  pointwise
  simp only [H.wx, H.bx, H.wh, H.bh, H.hid]
  refine congrArg (fun z => z + I.bx j + (∑ x, (Spec.state I b k).1 x * I.Wh j x) + I.bh j) ?_
  exact Finset.sum_congr rfl fun q _ => congrArg (· * I.Wx j q) (H.xs ⟨k, hk⟩ b q)

theorem cell_at (b : Fin 2048) (j : Fin 128) :
    (res_main_while0b_v107 V : FVec Ideal S2048x128 .f32) (ix2 b j) = (Spec.state I b (k + 1)).2 j := by
  rw [Spec.state, dif_pos hk]
  have hg := gates_at hk H b
  have hc := H.cell b j
  unfold res_main_while0b_v107 Spec.cellStep Spec.sig
  clean_types
  pointwise
  rw [hg, hg, hg, hc]

theorem hid_at (b : Fin 2048) (j : Fin 128) :
    (res_main_while0b_v115 V : FVec Ideal S2048x128 .f32) (ix2 b j) = (Spec.state I b (k + 1)).1 j := by
  have hc := cell_at hk H b j
  rw [Spec.state, dif_pos hk] at hc ⊢
  have hg := gates_at hk H b
  unfold res_main_while0b_v115 Spec.hidStep Spec.sig
  clean_types
  pointwise
  rw [hg, hc]

theorem outs_at (t : Fin 215) (b : Fin 2048) (j : Fin 128) :
    (step_main_v46_8 V : FVec Ideal S215x2048x128 .f32) (ix3 t b j) = if t.val < k + 1 then (Spec.state I b (t.val + 1)).1 j else 0 := by
  have hs := start_toInt V k hk H.ctr
  have hh := hid_at hk H b j
  have ho := H.outs t b j
  unfold step_main_v46_8
  simp only [id]
  clean_types
  rw [dynamicUpdateSlice_eq_update _ _ _ _ ![k, 0, 0] (by refine ⟨rfl, fun a => ?_⟩; fin_cases a <;> simp <;> omega) hs]
  pointwise
  rw [hh, ho]
  by_cases h1 : t.val < k
  · rw [dif_neg (by omega), if_pos h1, if_pos (by omega)]
  · by_cases h2 : t.val = k
    · rw [dif_pos (by omega), if_pos (by omega), h2]
    · rw [dif_neg (by omega), if_neg h1, if_neg (by omega)]

/-- One turn of the loop. -/
theorem step : Inv I (STEP V) (k + 1) where
  xs := by rw [STEP_main_v46_0]; exact H.xs
  wx := by rw [STEP_main_v46_1]; exact H.wx
  bx := by rw [STEP_main_v46_2]; exact H.bx
  wh := by rw [STEP_main_v46_3]; exact H.wh
  bh := by rw [STEP_main_v46_4]; exact H.bh
  ctr := by
    rw [STEP_main_v46_5]; unfold step_main_v46_5
    have := H.ctr
    funext i
    simp only [id]
    clean_types
    pointwise
    rw [this, BitVec.ofNat_add]; rfl
  hid := fun b j => by rw [STEP_main_v46_6]; exact hid_at hk H b j
  cell := fun b j => by rw [STEP_main_v46_7]; exact cell_at hk H b j
  outs := fun t b j => by rw [STEP_main_v46_8]; exact outs_at hk H t b j

end Step

/-- After `k` turns. -/
theorem iterate (H : Inv I V 0) : ∀ k ≤ 215, Inv I (STEP^[k] V) k
  | 0, _ => H
  | k + 1, h => by
    rw [Function.iterate_succ_apply']
    exact step (by omega) (iterate H k (by omega))

/-- The masked sum over all steps is the pooled sum. -/
theorem pool_eq (b : Fin 2048) (j : Fin 128) : ∀ n ≤ 215, Spec.pool I b j n
    = ∑ t : Fin n, (Spec.state I b (t.val + 1)).1 j * (if (BitVec.ofNat 32 t.val).toInt < (I.len b).toInt then (1 : EReal) else 0)
  | 0, _ => by simp [Spec.pool]
  | n + 1, h => by
    rw [Spec.pool, pool_eq b j n (by omega), Fin.sum_univ_castSucc]
    refine congrArg₂ (· + ·) rfl ?_
    simp only [Fin.val_last, mul_ite, mul_one, mul_zero]

/-- The bit of a signed comparison, as a float. -/
theorem bit_float (x y : BitVec 32) :
    (FloatOps.uitofp .f32 (IntOp.cmpi .slt x y) : Ideal .f32) = (if x.toInt < y.toInt then (1 : EReal) else 0) := by
  by_cases h : x.toInt < y.toInt
  · have e : IntOp.cmpi .slt x y = 1#1 := by simp [IntOp.cmpi, BitVec.slt, h]
    rw [if_pos h, e]; show (((1#1 : BitVec 1).toNat : ℝ) : EReal) = 1; simp
  · have e : IntOp.cmpi .slt x y = 0#1 := by simp [IntOp.cmpi, BitVec.slt, h]
    rw [if_neg h, e]; show (((0#1 : BitVec 1).toNat : ℝ) : EReal) = 0; simp

/-- What the reference's output layers read from memory. -/
structure Tail : Prop where
  stat : ∀ b k, (V (Proc.devRef .tc main_arg1) : FVec Ideal S2048x9 .f32) (ix2 b k) = I.stat b k
  len : ∀ b, (V (Proc.devRef .tc main_arg3) : IVec S2048 32) (ix1 b) = I.len b
  W1 : ∀ l k, (V (Proc.devRef .tc main_arg16) : FVec Ideal S137x137 .f32) (ix2 l k) = I.W1 l k
  B1 : ∀ l, (V (Proc.devRef .tc main_arg17) : FVec Ideal S137 .f32) (ix1 l) = I.B1 l
  W2 : ∀ j l, (V (Proc.devRef .tc main_arg18) : FVec Ideal S2x137 .f32) (ix2 j l) = I.W2 j l
  B2 : ∀ j, (V (Proc.devRef .tc main_arg19) : FVec Ideal S2 .f32) (ix1 j) = I.B2 j

/-- The output layers on the loop's result. -/
theorem out_at (H : Inv I V 215) (T : Tail I V) (b : Fin 2048) (j : Fin 2) :
    (out_main_v75 V : FVec Ideal S2048x2 .f32) (ix2 b j) = Spec.out I b j := by
  obtain ⟨h1, h3, h16, h17, h18, h19⟩ := T
  have ho := H.outs
  unfold out_main_v75 Spec.out
  clean_types
  pointwise
  simp only [h1, h3, h16, h17, h18, h19, ho, bit_float, Fin.is_lt, if_true]
  refine congrArg (· + I.B2 j) (Finset.sum_congr rfl fun l _ => ?_)
  refine congrArg (fun z => max (z + I.B1 l) 0 * I.W2 j l) ?_
  rw [show (∑ k, Spec.feat I b k * I.W1 l k) = ∑ k : Fin (128 + 9), Spec.feat I b k * I.W1 l k from rfl, Fin.sum_univ_add]
  refine congrArg₂ (· + ·) (Finset.sum_congr rfl fun k _ => ?_) (Finset.sum_congr rfl fun k _ => ?_)
  · rw [Spec.feat, dif_pos (show (Fin.castAdd 9 k).val < 128 from k.isLt), pool_eq I b _ 215 le_rfl]
    rfl
  · rw [Spec.feat, dif_neg (show ¬ (Fin.natAdd 128 k).val < 128 by simp)]
    exact congrArg (· * _) (congrArg (I.stat b) (Fin.ext (by simp)))

end Cert.ReferenceIdeal.Loop

end
-- ==== Proof.RefEntry.lean ====
/- What the reference computes ahead of its time loop. -/
module

public import proofs.«01_k».proof.Proof.RefTable
public import proofs.«01_k».proof.Proof.RefLoop
public import proofs.«01_k».proof.Proof.Consts

@[expose] public section

set_option maxRecDepth 100000
set_option maxHeartbeats 2000000

noncomputable section

namespace Cert.ReferenceIdeal.Loop

open Cert.ReferenceIdeal Cert.ReferenceIdeal.Gen Cert.ReferenceIdeal.Value Idealize.ShloMosaic Idealize.ShloMosaic.TcCoe
open Idealize.ShloMosaic.StableHlo

variable (m : (ℓ : Loc nD τ sig) → Buf (Elt Ideal) ℓ) (c : Dev nD)

/-- The argument arrays, as the specification's inputs. -/
def inp : Spec.Inputs where
  src t b d := m (c.tc.loc main_arg0) (ix3 t b d)
  stat b k := m (c.tc.loc main_arg1) (ix2 b k)
  len b := m (c.tc.loc main_arg3) (ix1 b)
  encW k d := m (c.tc.loc main_arg4) (ix2 k d)
  encB k := m (c.tc.loc main_arg5) (ix1 k)
  w1 := m (c.tc.loc main_arg6) (ix2 0 0)
  b1 := m (c.tc.loc main_arg7) (ix1 0)
  gamma := m (c.tc.loc main_arg8) (ix1 0)
  beta := m (c.tc.loc main_arg9) (ix1 0)
  w2 := m (c.tc.loc main_arg10) (ix2 0 0)
  b2 := m (c.tc.loc main_arg11) (ix1 0)
  Wx j k := m (c.tc.loc main_arg12) (ix2 j k)
  bx j := m (c.tc.loc main_arg13) (ix1 j)
  Wh j k := m (c.tc.loc main_arg14) (ix2 j k)
  bh j := m (c.tc.loc main_arg15) (ix1 j)
  W1 l k := m (c.tc.loc main_arg16) (ix2 l k)
  B1 l := m (c.tc.loc main_arg17) (ix1 l)
  W2 j l := m (c.tc.loc main_arg18) (ix2 j l)
  B2 j := m (c.tc.loc main_arg19) (ix1 j)

/-- The array of node values, one row per time step. -/
abbrev nodes : FVec Ideal S215x73728 .f32 := entryContents preI m c (Proc.devRef .tc main_v7)
/-- The summed messages. -/
abbrev msgs : FVec Ideal S215x73728 .f32 := entryContents preI m c (Proc.devRef .tc main_v18)

theorem nodes_at (t : Fin 215) (b : Fin 2048) (k : Fin 36) (n : Fin 73728) (hn : n.val = b.val * 36 + k.val) :
    nodes m c (ix2 t n) = Spec.node (inp m c) t b k := by
  dsimp only [Spec.node, inp]
  unfold nodes
  simp only [entryContents, afterL_cons, afterL_nil]
  after_reads_simp
  clean_types
  pointwise
  have := k.isLt
  obtain ⟨n, hlt⟩ := n
  obtain rfl : n = b.val * 36 + k.val := hn
  have e1 : ∀ h, (⟨(b.val * 36 + k.val) / 36, h⟩ : Fin 2048) = b := fun h => Fin.ext (by show (b.val * 36 + k.val) / 36 = b.val; omega)
  have e2 : ∀ h, (⟨(b.val * 36 + k.val) % 36, h⟩ : Fin 36) = k := fun h => Fin.ext (by show (b.val * 36 + k.val) % 36 = k.val; omega)
  rw [Lit.eight]
  simp only [e1, e2]

theorem srcs_at (e : Fin 2592) : (entryContents preI m c (Proc.devRef .tc main_v12) : IVec S2592x1 32) (ix2 e (0 : Fin 1)) = lit0 e := by
  simp only [entryContents, afterL_cons, afterL_nil]
  after_reads_simp
  clean_types
  generalize lit0 = T
  pointwise
  exact congrArg T (Fin.ext (Shape.rowMajor_val_one _))
theorem dsts_at (e : Fin 2592) : (entryContents preI m c (Proc.devRef .tc main_v17) : IVec S2592x1 32) (ix2 e (0 : Fin 1)) = lit1 e := by
  simp only [entryContents, afterL_cons, afterL_nil]
  after_reads_simp
  clean_types
  generalize lit1 = T
  pointwise
  exact congrArg T (Fin.ext (Shape.rowMajor_val_one _))
theorem msgs_eq : msgs m c = Host.scatterAdd (F := Ideal) (φ := .f32) scatter_S215x73728_S2592x1_S215x2592_0_1_1_1 (broadcastInDim S215x73728 ![] bcast_S_S215x73728 (constant S_ .f32 0x00000000#32))
    (entryContents preI m c (Proc.devRef .tc main_v17)) (Host.gather gather_S215x73728_S2592x1_S215x2592_0_1_n_n_1_1_2151 (nodes m c) (entryContents preI m c (Proc.devRef .tc main_v12))) := by
  unfold msgs nodes
  simp only [entryContents, afterL_cons, afterL_nil]
  after_reads_simp
/-- A TensorCore array as the loop finds it. -/
abbrev at0 (b : Ref sig .tc) := entryContents preI m c (Proc.devRef .tc b)

theorem v21_at (i : S215x73728.Idx) : (at0 m c main_v21 : FVec Ideal S215x73728 .f32) i = (inp m c).w1 := by
  dsimp only [inp, at0]
  simp only [entryContents, afterL_cons, afterL_nil]
  after_reads_simp
  clean_types
  pointwise
theorem v24_at (i : S215x73728.Idx) : (at0 m c main_v24 : FVec Ideal S215x73728 .f32) i = (inp m c).b1 := by
  dsimp only [inp, at0]
  simp only [entryContents, afterL_cons, afterL_nil]
  after_reads_simp
  clean_types
  pointwise
theorem v29_at (i : S215x73728.Idx) : (at0 m c main_v29 : FVec Ideal S215x73728 .f32) i = (inp m c).gamma := by
  dsimp only [inp, at0]
  simp only [entryContents, afterL_cons, afterL_nil]
  after_reads_simp
  clean_types
  pointwise
theorem v32_at (i : S215x73728.Idx) : (at0 m c main_v32 : FVec Ideal S215x73728 .f32) i = (inp m c).beta := by
  dsimp only [inp, at0]
  simp only [entryContents, afterL_cons, afterL_nil]
  after_reads_simp
  clean_types
  pointwise
theorem v36_at (i : S215x73728.Idx) : (at0 m c main_v36 : FVec Ideal S215x73728 .f32) i = (inp m c).w2 := by
  dsimp only [inp, at0]
  simp only [entryContents, afterL_cons, afterL_nil]
  after_reads_simp
  clean_types
  pointwise
theorem v39_at (i : S215x73728.Idx) : (at0 m c main_v39 : FVec Ideal S215x73728 .f32) i = (inp m c).b2 := by
  dsimp only [inp, at0]
  simp only [entryContents, afterL_cons, afterL_nil]
  after_reads_simp
  clean_types
  pointwise
theorem v26_at (i : S215x73728.Idx) : (at0 m c main_v26 : FVec Ideal S215x73728 .f32) i = (Lit.root : EReal) := by
  dsimp only [at0]
  simp only [entryContents, afterL_cons, afterL_nil]
  after_reads_simp
  clean_types
  pointwise
  exact Lit.rootLit

theorem v33_eq : (at0 m c main_v33 : FVec Ideal S215x73728 .f32)
    = addf (F := Ideal) (φ := .f32) (mulf (Host.divf (addf (mulf (addf (nodes m c) (msgs m c)) (at0 m c main_v21)) (at0 m c main_v24)) (at0 m c main_v26)) (at0 m c main_v29)) (at0 m c main_v32) := by
  unfold msgs nodes at0
  simp only [entryContents, afterL_cons, afterL_nil]
  after_reads_simp
theorem v40_eq : (at0 m c main_v40 : FVec Ideal S215x73728 .f32)
    = addf (F := Ideal) (φ := .f32) (mulf (maximumf (at0 m c main_v33) (broadcastInDim S215x73728 ![] bcast_S_S215x73728 (constant S_ .f32 0x00000000#32))) (at0 m c main_v36)) (at0 m c main_v39) := by
  unfold at0
  simp only [entryContents, afterL_cons, afterL_nil]
  after_reads_simp
  simp only [TRef.ofBuf_toBuf]
  rfl
theorem v46_0_eq : (at0 m c main_v46_0 : FVec Ideal S215x2048x36 .f32)
    = shapeCast S215x2048x36 (maximumf (F := Ideal) (φ := .f32) (at0 m c main_v40) (broadcastInDim S215x73728 ![] bcast_S_S215x73728 (constant S_ .f32 0x00000000#32))) shapeCasts_S215x73728_S215x2048x36 := by
  unfold at0
  simp only [entryContents, afterL_cons, afterL_nil]
  after_reads_simp
  simp only [TRef.ofBuf_toBuf]
  rfl

theorem msgs_at (t : Fin 215) (b : Fin 2048) (k : Fin 36) (n : Fin 73728) (hn : n.val = b.val * 36 + k.val) :
    msgs m c (ix2 t n) = if b.val = 0 then ((2 : ℝ) : EReal) * ∑ l, Spec.node (inp m c) t 0 l else 0 := by
  have hk := k.isLt
  have dlt : ∀ e : Fin 2592, Table.dst e.val < 36 := fun e => by
    have := e.isLt
    unfold Table.dst; split <;> omega
  have slt : ∀ e : Fin 2592, Table.src e.val < 36 := fun e => by
    have := e.isLt
    unfold Table.src; split <;> omega
  have hd : ∀ e : Fin 2592, ((entryContents preI m c (Proc.devRef .tc main_v17) : IVec S2592x1 32) (ix2 e (0 : Fin 1))).toInt = Table.dst e.val := fun e => by
    have := dlt e
    rw [dsts_at, Table.lit1_eq, BitVec.toInt_eq_toNat_of_lt] <;> simp <;> omega
  rw [msgs_eq, Table.scatter_at _ _ _ _ _ hd]
  have z : (broadcastInDim S215x73728 ![] bcast_S_S215x73728 (constant (F := Ideal) S_ .f32 0x00000000#32) (ix2 t n) : EReal) = 0 := by
    pointwise
  rw [z, zero_add]
  have hg : ∀ e : Fin 2592, (Host.gather gather_S215x73728_S2592x1_S215x2592_0_1_n_n_1_1_2151 (nodes m c) (entryContents preI m c (Proc.devRef .tc main_v12)) (ix2 t e) : EReal)
      = (fun x => if h : x < 36 then Spec.node (inp m c) t 0 ⟨x, h⟩ else 0) (Table.src e.val) := fun e => by
    have := slt e
    rw [Table.gather_at (nodes m c) _ t e ⟨Table.src e.val, by omega⟩ ((srcs_at m c e).trans (Table.lit0_eq e))]
    show _ = dite _ _ _
    rw [dif_pos this]
    exact nodes_at m c t 0 ⟨Table.src e.val, this⟩ _ (by simp)
  refine (Finset.sum_congr rfl fun e _ => if_congr Iff.rfl (hg e) rfl).trans
    ((Table.sum_edges (fun x => if h : x < 36 then Spec.node (inp m c) t 0 ⟨x, h⟩ else 0) n.val).trans ?_)
  simp only [Fin.is_lt, dite_true, Fin.eta]
  refine if_congr (by omega) ?_ rfl
  rw [show ((2 : ℝ) : EReal) = 1 + 1 by rw [← EReal.coe_one, ← EReal.coe_add]; norm_num, EReal.right_distrib_of_nonneg zero_le_one zero_le_one, one_mul]

theorem xs_at (t : Fin 215) (b : Fin 2048) (k : Fin 36) :
    (at0 m c main_v46_0 : FVec Ideal S215x2048x36 .f32) (ix3 t b k) = Spec.gin (inp m c) t b k := by
  have := k.isLt
  have := b.isLt
  have hn := nodes_at m c t b k ⟨b.val * 36 + k.val, by omega⟩ rfl
  have hm := msgs_at m c t b k ⟨b.val * 36 + k.val, by omega⟩ rfl
  unfold Spec.gin Spec.mlp1 Spec.agg
  rw [← hn, ← hm, ← v21_at m c (ix2 t ⟨b.val * 36 + k.val, by omega⟩), ← v24_at m c (ix2 t ⟨b.val * 36 + k.val, by omega⟩), ← v26_at m c (ix2 t ⟨b.val * 36 + k.val, by omega⟩),
    ← v29_at m c (ix2 t ⟨b.val * 36 + k.val, by omega⟩), ← v32_at m c (ix2 t ⟨b.val * 36 + k.val, by omega⟩), ← v36_at m c (ix2 t ⟨b.val * 36 + k.val, by omega⟩), ← v39_at m c (ix2 t ⟨b.val * 36 + k.val, by omega⟩)]
  rw [v46_0_eq, v40_eq, v33_eq]
  generalize nodes m c = X0
  generalize msgs m c = X1
  generalize at0 m c main_v21 = X2
  generalize at0 m c main_v24 = X3
  generalize at0 m c main_v26 = X4
  generalize at0 m c main_v29 = X5
  generalize at0 m c main_v32 = X6
  generalize at0 m c main_v36 = X7
  generalize at0 m c main_v39 = X8
  clean_types
  pointwise
theorem inv_entry : Inv (inp m c) (entryContents preI m c) 0 where
  xs := xs_at m c
  wx j q := by
    dsimp only [inp]
    simp only [entryContents, afterL_cons, afterL_nil]
    after_reads_simp
    rfl
  bx j := by
    dsimp only [inp]
    simp only [entryContents, afterL_cons, afterL_nil]
    after_reads_simp
    rfl
  wh j q := by
    dsimp only [inp]
    simp only [entryContents, afterL_cons, afterL_nil]
    after_reads_simp
    rfl
  bh j := by
    dsimp only [inp]
    simp only [entryContents, afterL_cons, afterL_nil]
    after_reads_simp
    rfl
  ctr := ctr_entry m c
  hid b j := by
    rw [Spec.state]
    show _ = (0 : EReal)
    simp only [entryContents, afterL_cons, afterL_nil]
    after_reads_simp
    simp only [id]
    clean_types
    pointwise
  cell b j := by
    rw [Spec.state]
    show _ = (0 : EReal)
    simp only [entryContents, afterL_cons, afterL_nil]
    after_reads_simp
    simp only [id]
    clean_types
    pointwise
  outs t b j := by
    rw [if_neg (by omega)]
    simp only [entryContents, afterL_cons, afterL_nil]
    after_reads_simp
    simp only [id]
    clean_types
    pointwise

theorem tail (k : ℕ) : Tail (inp m c) (STEP^[k] (entryContents preI m c)) where
  stat b q := congrFun (iter_main_arg1 m c k) (ix2 b q)
  len b := congrFun (iter_main_arg3 m c k) (ix1 b)
  W1 l q := congrFun (iter_main_arg16 m c k) (ix2 l q)
  B1 l := congrFun (iter_main_arg17 m c k) (ix1 l)
  W2 j l := congrFun (iter_main_arg18 m c k) (ix2 j l)
  B2 j := congrFun (iter_main_arg19 m c k) (ix1 j)

/-- The reference's result is the specification's output. -/
theorem out_spec (b : Fin 2048) (j : Fin 2) :
    (out_main_v75 (STEP^[215] (entryContents preI m c)) : FVec Ideal S2048x2 .f32) (ix2 b j) = Spec.out (inp m c) b j :=
  out_at (inp m c) _ (iterate (inp m c) _ (inv_entry m c) 215 le_rfl) (tail m c 215) b j

end Cert.ReferenceIdeal.Loop

end
-- ==== Proof.PreOk.lean ====
/- The precondition says the inputs of the node values are finite and no length is −1. -/
module

public import proofs.«01_k».proof.Defs
public import proofs.«01_k».proof.Proof.Gen.Pre_finite_node_inputs
public import proofs.«01_k».proof.Proof.Host

@[expose] public section

noncomputable section

namespace Cert.KernelIdeal.Tile

open Cert.KernelIdeal Idealize.ShloMosaic Idealize.ShloMosaic.TcCoe

/-- An extended real below +∞ in absolute value is a real number. -/
theorem real_of_bit (x : EReal) (h : (FloatOps.cmpf (F := Ideal) (φ := .f32) .olt (FloatOps.hostAbsf (F := Ideal) (φ := .f32) x) (Ideal.ofBits .f32 0x7F800000#32)) = 1#1) : ∃ r : ℝ, x = r := by
  have top : Ideal.ofBits .f32 0x7F800000#32 = ⊤ := by simp [Ideal.ofBits, Ideal.ieee]
  rw [top] at h
  have lt : max x (-x) < (⊤ : EReal) := by
    by_contra n
    have z : BitVec.ofBool (decide (max x (-x) < (⊤ : EReal))) = 1#1 := h
    rw [decide_eq_false n] at z
    exact absurd z (by decide)
  have h1 : x ≠ ⊤ := fun e => by rw [e] at lt; exact absurd lt (by simp)
  have h2 : x ≠ ⊥ := fun e => by rw [e] at lt; exact absurd lt (by simp)
  exact ⟨x.toReal, (EReal.coe_toReal h1 h2).symm⟩

/-- A word that compares unequal to −1 is not −1. -/
theorem ne_of_bit (x : BitVec 32) (h : IntOp.cmpi .ne x 4294967295#32 = 1#1) : x.toInt ≠ -1 := by
  intro e
  have : x = 4294967295#32 := BitVec.eq_of_toInt_eq (by rw [e]; rfl)
  subst this
  revert h
  decide

theorem ok (m : (ℓ : Loc nD τ sig) → Buf (Elt Ideal) ℓ) (h : Cert.Pre_KernelIdeal_finite_node_inputs m) (c : Dev nD) : Spec.Ok (inp m c) := by
  obtain ⟨h0, h1, h2, h3, h4, h5, h6, h7, h8⟩ := h c
  refine ⟨fun t b d => real_of_bit _ ?_, fun k d => real_of_bit _ ?_, fun k => real_of_bit _ ?_, real_of_bit _ ?_, real_of_bit _ ?_, real_of_bit _ ?_,
    real_of_bit _ ?_, real_of_bit _ ?_, fun b => ne_of_bit _ ?_⟩
  · exact congrFun h0 (ix3 t b d)
  · exact congrFun h1 (ix2 k d)
  · exact congrFun h2 (ix1 k)
  · exact congrFun h3 (ix2 0 0)
  · exact congrFun h4 (ix1 0)
  · exact congrFun h5 (ix1 0)
  · exact congrFun h6 (ix1 0)
  · exact congrFun h7 (ix1 0)
  · exact congrFun h8 (ix1 b)

end Cert.KernelIdeal.Tile

end
-- ==== Proof.lean ====
/- The proof of the certificate's claims. Each frame is the program's generated frame or its run weakened. The value claim
   reads both programs' results at an index as one specification (Proof/Spec.lean): the kernel's by Proof/KernelValue.lean, the
   reference's by Proof/RefEntry.lean. -/
module

public import proofs.«01_k».proof.Defs
public import proofs.«01_k».proof.Proof.Gen.Kernel.Frame
public import proofs.«01_k».proof.Proof.Gen.KernelIdeal.Value
public import proofs.«01_k».proof.Proof.Gen.Pre_finite_node_inputs
public import proofs.«01_k».proof.Proof.Gen.ReferenceIdeal.Run
public import proofs.«01_k».proof.Proof.KernelValue
public import proofs.«01_k».proof.Proof.RefEntry
public import proofs.«01_k».proof.Proof.PreOk
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre : Cert.quiescent_ReferenceIdeal_pre_finite_node_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs' results are the specification's output. -/
theorem algebraic : Cert.algebraic_KernelIdeal_ReferenceIdeal_pre_finite_node_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hin : Cert.ReferenceIdeal.Loop.inp m' c = Cert.KernelIdeal.Tile.inp m c := by
    obtain ⟨h0, h1, h2, h3, h4, h5, h6, h7, h8, h9, h10, h11, h12, h13, h14, h15, h16, h17, h18, h19⟩ := hagree c
    unfold Cert.ReferenceIdeal.Loop.inp Cert.KernelIdeal.Tile.inp
    rw [h0, h1, h3, h4, h5, h6, h7, h8, h9, h10, h11, h12, h13, h14, h15, h16, h17, h18, h19]
  refine funext fun i => ?_
  obtain ⟨b, j, rfl⟩ : ∃ (b : Fin 2048) (j : Fin 2), i = ix2 b j := ⟨i 0, i 1, eq_ix2 i⟩
  exact (Cert.ReferenceIdeal.Loop.out_spec m' c b j).trans
    ((congrArg (fun I => Cert.Spec.out I b j) hin).trans (Cert.KernelIdeal.Tile.G14_spec m c (Cert.KernelIdeal.Tile.ok m hpre c) b j).symm)

theorem claim : Cert.Claim := ⟨Cert.Kernel.Gen.facts, Cert.KernelIdeal.Gen.facts, Cert.ReferenceIdeal.Gen.facts, Cert.Pre_finite_node_inputs.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic⟩

end Cert.Proof

end
